-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x1024 : Shape := ⟨3, ![16, 2048, 1024]⟩
abbrev S1024 : Shape := ⟨1, ![1024]⟩
abbrev S16x1024 : Shape := ⟨2, ![16, 1024]⟩
abbrev S1x1024 : Shape := ⟨2, ![1, 1024]⟩
abbrev S2x8x1024 : Shape := ⟨3, ![2, 8, 1024]⟩
abbrev S8x128x1024 : Shape := ⟨3, ![8, 128, 1024]⟩
abbrev S1x8x1024 : Shape := ⟨3, ![1, 8, 1024]⟩
abbrev S8x1024 : Shape := ⟨2, ![8, 1024]⟩
abbrev S8x1x1024 : Shape := ⟨3, ![8, 1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024, .f32⟩
  | .hbm, ⟨3, _⟩ => ⟨S16x1024, .f32⟩
  | .hbm, ⟨4, _⟩ => ⟨S1x1024, .f32⟩
  | .hbm, ⟨5, _⟩ => ⟨S2x8x1024, .f32⟩
  | .hbm, ⟨6, _⟩ => ⟨S16x2048x1024, .f32⟩
  | .hbm, ⟨7, _⟩ => ⟨S16x2048x1024, .f32⟩
  | .local _ .vmem, ⟨0, _⟩ => ⟨S8x128x1024, .f32⟩
  | .local _ .vmem, ⟨1, _⟩ => ⟨S8x128x1024, .f32⟩
  | .local _ .vmem, ⟨2, _⟩ => ⟨S8x128x1024, .f32⟩
  | .local _ .vmem, ⟨3, _⟩ => ⟨S8x128x1024, .f32⟩
  | .local _ .vmem, ⟨4, _⟩ => ⟨S1x1024, .f32⟩
  | .local _ .vmem, ⟨5, _⟩ => ⟨S1x8x1024, .f32⟩
  | .local _ .vmem, ⟨6, _⟩ => ⟨S1x8x1024, .f32⟩
  | .local _ .vmem, ⟨7, _⟩ => ⟨S8x128x1024, .f32⟩
  | .local _ .vmem, ⟨8, _⟩ => ⟨S8x128x1024, .f32⟩
  | .local _ .vmem, ⟨9, _⟩ => ⟨S8x128x1024, .f32⟩
  | .local _ .vmem, ⟨10, _⟩ => ⟨S8x128x1024, .f32⟩
  | .local _ .vmem, ⟨11, _⟩ => ⟨S8x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x2048x1024 : Shape := ⟨3, ![16, 2048, 1024]⟩
abbrev S1024 : Shape := ⟨1, ![1024]⟩
abbrev S16x1024 : Shape := ⟨2, ![16, 1024]⟩
abbrev S2048x16x1024 : Shape := ⟨3, ![2048, 16, 1024]⟩
abbrev S_ : Shape := ⟨0, ![]⟩
abbrev S1x16x1024 : Shape := ⟨3, ![1, 16, 1024]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024, .f32⟩
  | .hbm, ⟨3, _⟩ => ⟨S16x1024, .f32⟩
  | .hbm, ⟨4, _⟩ => ⟨S2048x16x1024, .f32⟩
  | .hbm, ⟨5, _⟩ => ⟨S2048x16x1024, .f32⟩
  | .hbm, ⟨6, _⟩ => ⟨S_, .f32⟩
  | .hbm, ⟨7, _⟩ => ⟨S2048x16x1024, .f32⟩
  | .hbm, ⟨8, _⟩ => ⟨S_, .f32⟩
  | .hbm, ⟨9, _⟩ => ⟨S2048x16x1024, .f32⟩
  | .hbm, ⟨10, _⟩ => ⟨S_, .i32⟩
  | .hbm, ⟨11, _⟩ => ⟨S2048x16x1024, .f32⟩
  | .hbm, ⟨12, _⟩ => ⟨S2048x16x1024, .f32⟩
  | .hbm, ⟨13, _⟩ => ⟨S1024, .f32⟩
  | .hbm, ⟨14, _⟩ => ⟨S_, .i32⟩
  | .hbm, ⟨15, _⟩ => ⟨S16x1024, .f32⟩
  | .hbm, ⟨16, _⟩ => ⟨S2048x16x1024, .f32⟩
  | .hbm, ⟨17, _⟩ => ⟨S2048x16x1024, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S1x16x1024, .f32⟩
  | .hbm, ⟨23, _⟩ => ⟨S16x1024, .f32⟩
  | .hbm, ⟨24, _⟩ => ⟨S_, .i32⟩
  | .hbm, ⟨25, _⟩ => ⟨S_, .i32⟩
  | .hbm, ⟨26, _⟩ => ⟨S1x16x1024, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S1x1024, .f32⟩
  | .hbm, ⟨31, _⟩ => ⟨S16x1024, .f32⟩
  | .hbm, ⟨32, _⟩ => ⟨S16x1024, .f32⟩
  | .hbm, ⟨33, _⟩ => ⟨S_, .f32⟩
  | .hbm, ⟨34, _⟩ => ⟨S16x1024, .f32⟩
  | .hbm, ⟨35, _⟩ => ⟨S16x1024, .i1⟩
  | .hbm, ⟨36, _⟩ => ⟨S16x1024, .f32⟩
  | .hbm, ⟨37, _⟩ => ⟨S_, .f32⟩
  | .hbm, ⟨38, _⟩ => ⟨S16x1024, .f32⟩
  | .hbm, ⟨39, _⟩ => ⟨S16x1024, .f32⟩
  | .hbm, ⟨40, _⟩ => ⟨S16x1024, .f32⟩
  | .hbm, ⟨41, _⟩ => ⟨S1x16x1024, .f32⟩
  | .hbm, ⟨42, _⟩ => ⟨S_, .i32⟩
  | .hbm, ⟨43, _⟩ => ⟨S_, .i32⟩
  | .hbm, ⟨44, _⟩ => ⟨S2048x16x1024, .f32⟩
  | .hbm, ⟨45, _⟩ => ⟨S1x16x1024, .f32⟩
  | .hbm, ⟨46, _⟩ => ⟨S_, .i32⟩
  | .hbm, ⟨47, _⟩ => ⟨S_, .i32⟩
  | .hbm, ⟨48, _⟩ => ⟨S2048x16x1024, .f32⟩
  | .hbm, ⟨49, _⟩ => ⟨S_, .i32⟩
  | .hbm, ⟨50, _⟩ => ⟨S_, .i32⟩
  | .hbm, ⟨51, _⟩ => ⟨S16x2048x1024, .f32⟩
  | .hbm, ⟨52, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_c : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev main_while0c_c_7 : Ref sig .tc := ⟨.hbm, 18, rfl⟩
abbrev main_while0c_v7 : Ref sig .tc := ⟨.hbm, 19, rfl⟩
abbrev main_while0b_call0_c : Ref sig .tc := ⟨.hbm, 20, rfl⟩
abbrev main_while0b_call0_c_0 : Ref sig .tc := ⟨.hbm, 21, rfl⟩
abbrev main_while0b_call0_v0 : Ref sig .tc := ⟨.hbm, 22, rfl⟩
abbrev main_while0b_v7 : Ref sig .tc := ⟨.hbm, 23, rfl⟩
abbrev main_while0b_call1_c : Ref sig .tc := ⟨.hbm, 24, rfl⟩
abbrev main_while0b_call1_c_0 : Ref sig .tc := ⟨.hbm, 25, rfl⟩
abbrev main_while0b_call1_v0 : Ref sig .tc := ⟨.hbm, 26, rfl⟩
abbrev main_while0b_v8 : Ref sig .tc := ⟨.hbm, 27, rfl⟩
abbrev main_while0b_v9 : Ref sig .tc := ⟨.hbm, 28, rfl⟩
abbrev main_while0b_v10 : Ref sig .tc := ⟨.hbm, 29, rfl⟩
abbrev main_while0b_v11 : Ref sig .tc := ⟨.hbm, 30, rfl⟩
abbrev main_while0b_v12 : Ref sig .tc := ⟨.hbm, 31, rfl⟩
abbrev main_while0b_v13 : Ref sig .tc := ⟨.hbm, 32, rfl⟩
abbrev main_while0b_cst_7 : Ref sig .tc := ⟨.hbm, 33, rfl⟩
abbrev main_while0b_v14 : Ref sig .tc := ⟨.hbm, 34, rfl⟩
abbrev main_while0b_v15 : Ref sig .tc := ⟨.hbm, 35, rfl⟩
abbrev main_while0b_v16 : Ref sig .tc := ⟨.hbm, 36, rfl⟩
abbrev main_while0b_cst_8 : Ref sig .tc := ⟨.hbm, 37, rfl⟩
abbrev main_while0b_v17 : Ref sig .tc := ⟨.hbm, 38, rfl⟩
abbrev main_while0b_v18 : Ref sig .tc := ⟨.hbm, 39, rfl⟩
abbrev main_while0b_v19 : Ref sig .tc := ⟨.hbm, 40, rfl⟩
abbrev main_while0b_call2_v0 : Ref sig .tc := ⟨.hbm, 41, rfl⟩
abbrev main_while0b_call2_c : Ref sig .tc := ⟨.hbm, 42, rfl⟩
abbrev main_while0b_call2_c_0 : Ref sig .tc := ⟨.hbm, 43, rfl⟩
abbrev main_while0b_v20 : Ref sig .tc := ⟨.hbm, 44, rfl⟩
abbrev main_while0b_call3_v0 : Ref sig .tc := ⟨.hbm, 45, rfl⟩
abbrev main_while0b_call3_c : Ref sig .tc := ⟨.hbm, 46, rfl⟩
abbrev main_while0b_call3_c_0 : Ref sig .tc := ⟨.hbm, 47, rfl⟩
abbrev main_while0b_v21 : Ref sig .tc := ⟨.hbm, 48, rfl⟩
abbrev main_while0b_c_9 : Ref sig .tc := ⟨.hbm, 49, rfl⟩
abbrev main_while0b_v22 : Ref sig .tc := ⟨.hbm, 50, rfl⟩
abbrev main_v5 : Ref sig .tc := ⟨.hbm, 51, rfl⟩
abbrev main_v6 : Ref sig .tc := ⟨.hbm, 52, rfl⟩

abbrev nD : Nat := 1
abbrev τ : Topo := Topo.v7x

variable {F : FTy → Type} [FloatOps F]

abbrev main_while0_count : Scf.Loop 32 := ⟨0#32, 2048#32, 1#32⟩
-- ==== Proof.Scan.lean ====
/-
  The recurrence both programs compute, on one element of the state: a leaky membrane that adds an input at every step and
  is reset to zero at the step at which it exceeds its threshold. Stated over the extended reals, with the two ways in
  which the programs write the threshold test brought to one form. No value is assumed finite.
-/
module

public import Idealize.ShloMosaic.PureOps.Ideal
public import Idealize.ShloMosaic.Lib.ValueIdx

@[expose] public section

noncomputable section

namespace Cert.Proof.Lif

open Idealize.ShloMosaic

/-- The membrane before the threshold test: the decayed old membrane plus the input. -/
def pre (a b h : EReal) : EReal := a * h + b

/-- The membrane after the threshold test: zero where it exceeds the threshold, itself elsewhere. -/
def reset (θ p : EReal) : EReal := if θ < p then 0 else p

/-- The spike: one where the membrane exceeds the threshold, zero elsewhere. -/
def fire (θ p : EReal) : EReal := if θ < p then 1 else 0

/-- The membrane that step `n` finds, from the decays `a`, the inputs `b`, the threshold `θ` and the initial membrane. -/
def mem (a b : ℕ → EReal) (θ h0 : EReal) : ℕ → EReal
  | 0 => h0
  | n + 1 => reset θ (pre (a n) (b n) (mem a b θ h0 n))

/-- The spike of step `n`. -/
def spk (a b : ℕ → EReal) (θ h0 : EReal) (n : ℕ) : EReal := fire θ (pre (a n) (b n) (mem a b θ h0 n))

/-- Running `m + n` steps is running `m` steps, then `n` more from what they left. -/
theorem mem_add (a b : ℕ → EReal) (θ h0 : EReal) (m : ℕ) :
    ∀ n, mem a b θ h0 (m + n) = mem (fun i => a (m + i)) (fun i => b (m + i)) θ (mem a b θ h0 m) n
  | 0 => rfl
  | n + 1 => by rw [← Nat.add_assoc, mem, mem, mem_add a b θ h0 m n]

/-- The spike of step `m + n` likewise. -/
theorem spk_add (a b : ℕ → EReal) (θ h0 : EReal) (m n : ℕ) :
    spk a b θ h0 (m + n) = spk (fun i => a (m + i)) (fun i => b (m + i)) θ (mem a b θ h0 m) n := by
  rw [spk, spk, mem_add]

/-- The first `n` steps read the first `n` decays and inputs only. -/
theorem mem_congr {a a' b b' : ℕ → EReal} (θ h0 : EReal) :
    ∀ n, (∀ i < n, a i = a' i) → (∀ i < n, b i = b' i) → mem a b θ h0 n = mem a' b' θ h0 n
  | 0, _, _ => rfl
  | n + 1, ha, hb => by
    rw [mem, mem, ha n n.lt_succ_self, hb n n.lt_succ_self,
      mem_congr θ h0 n (fun i hi => ha i (hi.trans n.lt_succ_self)) (fun i hi => hb i (hi.trans n.lt_succ_self))]

/-- The spike of step `n` reads the first `n + 1` decays and inputs only. -/
theorem spk_congr {a a' b b' : ℕ → EReal} (θ h0 : EReal) (n : ℕ)
    (ha : ∀ i < n + 1, a i = a' i) (hb : ∀ i < n + 1, b i = b' i) : spk a b θ h0 n = spk a' b' θ h0 n := by
  rw [spk, spk, ha n n.lt_succ_self, hb n n.lt_succ_self,
    mem_congr θ h0 n (fun i hi => ha i (hi.trans n.lt_succ_self)) (fun i hi => hb i (hi.trans n.lt_succ_self))]

/-- The bits of the literal zero are the number zero. -/
theorem lit_zero : (FloatOps.ofBits .f32 0x00000000#32 : Ideal .f32) = (0 : EReal) := by
  show Ideal.ofBits .f32 0x00000000#32 = 0
  simp [Ideal.ofBits, Ideal.ieee]

/-- The bits of the literal one are the number one. -/
theorem lit_one : (FloatOps.ofBits .f32 0x3F800000#32 : Ideal .f32) = (1 : EReal) := by
  show Ideal.ofBits .f32 0x3F800000#32 = 1
  simp [Ideal.ofBits, Ideal.ieee, -EReal.coe_mul]
  norm_num

/-- A select on "greater than" is an `if` on "less than", sides exchanged. -/
theorem select_ogt (x y u v : EReal) :
    Scalar.select (FloatOps.cmpf (F := Ideal) (φ := .f32) .ogt x y) u v = if y < x then u else v := by
  show Scalar.select (Ideal.cmp .ogt x y) u v = _
  by_cases h : y < x <;> simp [Ideal.cmp, Scalar.select, h]

/-- A value exceeds the threshold exactly when the difference is positive — at the infinities too. -/
theorem sub_pos_iff (p θ : EReal) : 0 < p - θ ↔ θ < p := by
  induction p using EReal.rec <;> induction θ using EReal.rec <;> simp [← EReal.coe_sub, EReal.sub_pos]

/-- The reference's spike: the test "difference positive" turned into a number. -/
theorem ref_fire (p θ : EReal) :
    (FloatOps.uitofp .f32 (FloatOps.cmpf (F := Ideal) (φ := .f32) .ogt (p - θ) (0 : EReal)) : Ideal .f32) = fire θ p := by
  show (((Ideal.cmp .ogt (p - θ) 0).toNat : ℝ) : EReal) = _
  by_cases h : θ < p <;> simp [Ideal.cmp, fire, sub_pos_iff, h]

/-- The reference's reset: the membrane times one minus the spike. -/
theorem ref_reset (p θ : EReal) : p * (1 - fire θ p) = reset θ p := by
  have h11 : (1 : EReal) - 1 = 0 := by rw [← EReal.coe_one, ← EReal.coe_sub]; simp
  by_cases h : θ < p <;> simp [fire, reset, h, h11]

end Cert.Proof.Lif

end
-- ==== Proof.Spec.lean ====
module

public import proofs.«01_k».proof.Proof.Scan

/-! The two results as functions of the four arguments: at batch row `b`, time `t` and channel `d`, the membrane after
    `t + 1` steps and the spike of step `t`, of the recurrence that reads row `b`, channel `d` of the decays and inputs. -/

@[expose] public section

noncomputable section

namespace Cert.Proof.Lif

open Idealize.ShloMosaic Idealize.ShloMosaic.ValueIdx

/-- A time series of an argument: batch row `b` and channel `d` at each time (the times past the last are never read). -/
def series (A : (⟨3, ![16, 2048, 1024]⟩ : Shape).Idx → EReal) (b : Fin 16) (d : Fin 1024) : ℕ → EReal :=
  fun t => A (ix3 b (Fin.ofNat 2048 t) d)

/-- A series at a time in range. -/
theorem series_val (A : (⟨3, ![16, 2048, 1024]⟩ : Shape).Idx → EReal) (b : Fin 16) (d : Fin 1024) (t : Fin 2048) :
    series A b d t.val = A (ix3 b t d) :=
  congrArg (fun u => A (ix3 b u d)) (Fin.ext (Nat.mod_eq_of_lt t.isLt))

/-- The membrane of row `b`, channel `d` that step `n` finds. -/
def memAt (A B : (⟨3, ![16, 2048, 1024]⟩ : Shape).Idx → EReal) (Θ : (⟨1, ![1024]⟩ : Shape).Idx → EReal)
    (H : (⟨2, ![16, 1024]⟩ : Shape).Idx → EReal) (b : Fin 16) (d : Fin 1024) (n : ℕ) : EReal :=
  mem (series A b d) (series B b d) (Θ (ix1 d)) (H (ix2 b d)) n

/-- The spike of row `b`, channel `d` at step `n`. -/
def spkAt (A B : (⟨3, ![16, 2048, 1024]⟩ : Shape).Idx → EReal) (Θ : (⟨1, ![1024]⟩ : Shape).Idx → EReal)
    (H : (⟨2, ![16, 1024]⟩ : Shape).Idx → EReal) (b : Fin 16) (d : Fin 1024) (n : ℕ) : EReal :=
  spk (series A b d) (series B b d) (Θ (ix1 d)) (H (ix2 b d)) n

/-- The first result: every membrane after its step. -/
def memOut (A B : (⟨3, ![16, 2048, 1024]⟩ : Shape).Idx → EReal) (Θ : (⟨1, ![1024]⟩ : Shape).Idx → EReal)
    (H : (⟨2, ![16, 1024]⟩ : Shape).Idx → EReal) : (⟨3, ![16, 2048, 1024]⟩ : Shape).Idx → EReal :=
  fun i => memAt A B Θ H (i 0) (i 2) ((i 1).val + 1)

/-- The second result: every spike. -/
def spkOut (A B : (⟨3, ![16, 2048, 1024]⟩ : Shape).Idx → EReal) (Θ : (⟨1, ![1024]⟩ : Shape).Idx → EReal)
    (H : (⟨2, ![16, 1024]⟩ : Shape).Idx → EReal) : (⟨3, ![16, 2048, 1024]⟩ : Shape).Idx → EReal :=
  fun i => spkAt A B Θ H (i 0) (i 2) (i 1).val

end Cert.Proof.Lif

end
-- ==== Proof.Block.lean ====
module

public import proofs.«01_k».proof.Proof.Gen.KernelIdeal.Value
public import Idealize.ShloMosaic.Lib.ValueIdx
public import Idealize.ShloMosaic.Lib.Pipeline.ReadBack

/-! What one grid point computes on its block: 128 rows in turn, one membrane step each. The state before row `n` is
    `state … n`; the blocks the point writes are `memBlock` and `spkBlock`. -/

@[expose] public section

noncomputable section

namespace Cert.Proof.Block

open Idealize.ShloMosaic Idealize.ShloMosaic.ValueIdx Cert.KernelIdeal

variable {F : FTy → Type} [FloatOps F]

/-- Row `n` of a block of 128 rows. -/
def slab (x : Vec F S8x128x1024 .f32) (n : ℕ) : FVec F S8x1024 .f32 :=
  fun j => x (ix3 (j 0) (Fin.ofNat 128 n) (j 1))

/-- The membrane before row `n` when it is `h` before row `0`: each row scales it, adds the input and clears what is above the threshold. -/
def state (x0 x1 : Vec F S8x128x1024 .f32) (x2 : Vec F S1x1024 .f32) (h : FVec F S8x1024 .f32) : ℕ → FVec F S8x1024 .f32
  | 0 => h
  | n + 1 =>
    select
      (cmpf .ogt (addf (mulf (slab x0 n) (state x0 x1 x2 h n)) (slab x1 n))
        (broadcastTo S8x1024 x2 Cert.KernelIdeal.Gen.broadcasts_S1x1024_S8x1024))
      (broadcast S8x1024 (Scalar.ofBits .f32 0x00000000#32))
      (addf (mulf (slab x0 n) (state x0 x1 x2 h n)) (slab x1 n))

/-- The membrane of row `n` before the reset. -/
def raw (x0 x1 : Vec F S8x128x1024 .f32) (x2 : Vec F S1x1024 .f32) (h : FVec F S8x1024 .f32) (n : ℕ) : FVec F S8x1024 .f32 :=
  addf (mulf (slab x0 n) (state x0 x1 x2 h n)) (slab x1 n)

/-- Where row `n` is above the threshold. -/
def above (x0 x1 : Vec F S8x128x1024 .f32) (x2 : Vec F S1x1024 .f32) (h : FVec F S8x1024 .f32) (n : ℕ) : IVec S8x1024 1 :=
  cmpf .ogt (raw x0 x1 x2 h n) (broadcastTo S8x1024 x2 Cert.KernelIdeal.Gen.broadcasts_S1x1024_S8x1024)

/-- The spikes of row `n`: one where it is above the threshold, zero elsewhere. -/
def spikes (x0 x1 : Vec F S8x128x1024 .f32) (x2 : Vec F S1x1024 .f32) (h : FVec F S8x1024 .f32) (n : ℕ) : FVec F S8x1024 .f32 :=
  select (above x0 x1 x2 h n) (broadcast S8x1024 (Scalar.ofBits .f32 0x3F800000#32)) (broadcast S8x1024 (Scalar.ofBits .f32 0x00000000#32))

/-- The block of membranes a point writes: row `n` is the state after row `n`. -/
def memBlock (x0 x1 : Vec F S8x128x1024 .f32) (x2 : Vec F S1x1024 .f32) (h : FVec F S8x1024 .f32) : Vec F S8x128x1024 .f32 :=
  fun y => state x0 x1 x2 h ((y 1).val + 1) (ix2 (y 0) (y 2))

/-- The block of spikes a point writes: row `n` is the spikes of row `n`. -/
def spkBlock (x0 x1 : Vec F S8x128x1024 .f32) (x2 : Vec F S1x1024 .f32) (h : FVec F S8x1024 .f32) : Vec F S8x128x1024 .f32 :=
  fun y => spikes x0 x1 x2 h (y 1).val (ix2 (y 0) (y 2))

/-- The weighted sum of a row, as the row's value before the reset. -/
theorem raw_fold (x0 x1 : Vec F S8x128x1024 .f32) (x2 : Vec F S1x1024 .f32) (h : FVec F S8x1024 .f32) (n : ℕ) :
    addf (mulf (slab x0 n) (state x0 x1 x2 h n)) (slab x1 n) = raw x0 x1 x2 h n := rfl

/-- The comparison of a row with the threshold, as where it is above it. -/
theorem above_fold (x0 x1 : Vec F S8x128x1024 .f32) (x2 : Vec F S1x1024 .f32) (h : FVec F S8x1024 .f32) (n : ℕ)
    (hb : S1x1024.Broadcasts S8x1024) :
    cmpf .ogt (raw x0 x1 x2 h n) (broadcastTo S8x1024 x2 hb) = above x0 x1 x2 h n := rfl

/-- The reset of a row, as the state after it. -/
theorem state_fold (x0 x1 : Vec F S8x128x1024 .f32) (x2 : Vec F S1x1024 .f32) (h : FVec F S8x1024 .f32) (n : ℕ) :
    select (above x0 x1 x2 h n) (broadcast S8x1024 (Scalar.ofBits .f32 0x00000000#32)) (raw x0 x1 x2 h n) = state x0 x1 x2 h (n + 1) := rfl

/-- The choice of one or zero on a row, as its spikes. -/
theorem spikes_fold (x0 x1 : Vec F S8x128x1024 .f32) (x2 : Vec F S1x1024 .f32) (h : FVec F S8x1024 .f32) (n : ℕ) :
    select (above x0 x1 x2 h n) (broadcast S8x1024 (Scalar.ofBits .f32 0x3F800000#32)) (broadcast S8x1024 (Scalar.ofBits .f32 0x00000000#32)) =
      spikes x0 x1 x2 h n := rfl

/-- The state before row `0` is the state the point starts from. -/
theorem state_zero (x0 x1 : Vec F S8x128x1024 .f32) (x2 : Vec F S1x1024 .f32) (h : FVec F S8x1024 .f32) : state x0 x1 x2 h 0 = h := rfl

/-- A row loaded from a block and flattened is that row of the block. -/
theorem load_row {m : Memref sig .tc .vmem S8x128x1024 .f32} (hm : m.IsWhole) (x : Vec F S8x128x1024 .f32) (n : ℕ)
    (hb : ∀ a, (![0, n, 0] : Fin 3 → ℕ) a + (![8, 1, 1024] : Fin 3 → ℕ) a ≤ S8x128x1024.size a) (hs : S8x1x1024.ShapeCasts S8x1024) :
    shapeCast (α := F .f32) S8x1024 (View.readAt (Elt F) m.view (Rect.unit (s := S8x128x1024) ![0, n, 0] ![8, 1, 1024] hb).toLoadRect (hm.unread x) : Vec F S8x1x1024 .f32) hs = slab x n := by
  funext j
  have hn : n + 1 ≤ 128 := hb 1
  rw [shapeCast_apply _ hs j (ix3 (j 0) 0 (j 1)) (by
    rw [Shape.rowMajor_val_three, Shape.rowMajor_val_two]; simp [S8x1x1024, S8x1024]), View.readAt_eq_ld]
  show (m.view.read (Elt F) (hm.unread x)) _ = _
  rw [hm.read_unread]
  unfold slab
  congr 1
  funext a
  refine Fin.ext ?_
  have e : n % 128 = n := Nat.mod_eq_of_lt hn
  fin_cases a
  · show 0 + 1 * (j 0).val = (j 0).val
    omega
  · show n + 1 * 0 = n % 128
    omega
  · show 0 + 1 * (j 1).val = (j 1).val
    omega

/-- The threshold loaded whole is the threshold. -/
theorem load_threshold {m : Memref sig .tc .vmem S1x1024 .f32} (hm : m.IsWhole) (x : Vec F S1x1024 .f32)
    (hb : ∀ a, (![0, 0] : Fin 2 → ℕ) a + (![1, 1024] : Fin 2 → ℕ) a ≤ S1x1024.size a) (hs : S1x1024.ShapeCasts S1x1024) :
    shapeCast (α := F .f32) S1x1024 (View.readAt (Elt F) m.view (Rect.unit (s := S1x1024) ![0, 0] ![1, 1024] hb).toLoadRect (hm.unread x) : Vec F S1x1024 .f32) hs = x := by
  refine (shapeCast_self _ hs).trans ?_
  rw [View.readAt_eq_ld, hm.read_unread]
  exact View.ld_unit_zero (by funext a; fin_cases a <;> rfl) hb x

/-- The carried membrane loaded whole is the state before row `0`. -/
theorem load_state {m : Memref sig .tc .vmem S8x1024 .f32} (hm : m.IsWhole) (x0 x1 : Vec F S8x128x1024 .f32) (x2 : Vec F S1x1024 .f32)
    (x : Vec F S8x1024 .f32) (hb : ∀ a, (![0, 0] : Fin 2 → ℕ) a + (![8, 1024] : Fin 2 → ℕ) a ≤ S8x1024.size a) :
    (View.readAt (Elt F) m.view (Rect.unit (s := S8x1024) ![0, 0] ![8, 1024] hb).toLoadRect (hm.unread x) : Vec F S8x1024 .f32) =
      state x0 x1 x2 x 0 := by
  rw [View.readAt_eq_ld, hm.read_unread]
  exact View.ld_unit_zero (by funext a; fin_cases a <;> rfl) hb x

/-- The membrane a batch group starts from: the initial membrane of its rows. -/
def start (x : Vec F S1x8x1024 .f32) : FVec F S8x1024 .f32 := fun j => x (ix3 0 (j 0) (j 1))

/-- The initial membrane loaded, stored as the carried one and loaded back is the state before row `0`. -/
theorem load_start (c : Dev nD) {m : Memref sig .tc .vmem S1x8x1024 .f32} (hm : m.IsWhole) (m' : Memref sig .tc .vmem S8x1024 .f32)
    (x0 x1 : Vec F S8x128x1024 .f32) (x2 : Vec F S1x1024 .f32) (x : Vec F S1x8x1024 .f32) :
    Cert.KernelIdeal.Gen.kernelRun0_A.sl.v5 c m hm m' x = state x0 x1 x2 (start x) 0 := by
  unfold Cert.KernelIdeal.Gen.kernelRun0_A.sl.v5 Cert.KernelIdeal.Gen.kernelRun0_A.sl.HS0_1 Cert.KernelIdeal.Gen.k0_pay3
  refine (View.readCov_unit_lit m'.view _ _ (by intro a; fin_cases a <;> rfl)).trans ?_
  refine (shapeCast_self _ _).trans ?_
  rw [View.readAt_eq_ld, hm.read_unread]
  funext j
  refine (shapeCast_apply _ _ j (ix3 0 (j 0) (j 1)) (by
    rw [Shape.rowMajor_val_three, Shape.rowMajor_val_two]; simp [S1x8x1024, S8x1024])).trans ?_
  exact congrFun (View.ld_unit_zero (by funext a; fin_cases a <;> rfl) _ x) _

/-- Where row `n` of a block lies in it. -/
theorem row_emb (n : ℕ) (hb : ∀ a, (![0, n, 0] : Fin 3 → ℕ) a + (![8, 1, 1024] : Fin 3 → ℕ) a ≤ S8x128x1024.size a) (x : S8x1x1024.Idx) :
    (((Rect.unit (s := S8x128x1024) ![0, n, 0] ![8, 1, 1024] hb).emb x) 1).val = n ∧
      ix2 (((Rect.unit (s := S8x128x1024) ![0, n, 0] ![8, 1, 1024] hb).emb x) 0) (((Rect.unit (s := S8x128x1024) ![0, n, 0] ![8, 1, 1024] hb).emb x) 2)
        = (ix2 (x 0) (x 2) : S8x1024.Idx) := by
  have h1 : (x 1).val = 0 := Nat.lt_one_iff.mp (x 1).isLt
  refine ⟨?_, ?_⟩
  · show n + 1 * (x 1).val = n
    omega
  · funext a
    refine Fin.ext ?_
    fin_cases a
    · show 0 + 1 * (x 0).val = (x 0).val
      omega
    · show 0 + 1 * (x 2).val = (x 2).val
      omega

/-- A row given a unit axis, read at an index, is the row at the other two coordinates. -/
theorem unflatten (v : FVec F S8x1024 .f32) (hs : S8x1024.ShapeCasts S8x1x1024) (x : S8x1x1024.Idx) :
    shapeCast S8x1x1024 v hs x = v (ix2 (x 0) (x 2)) := by
  have h1 : (x 1).val = 0 := Nat.lt_one_iff.mp (x 1).isLt
  exact shapeCast_apply _ hs x (ix2 (x 0) (x 2)) (by
    rw [Shape.rowMajor_val_three, Shape.rowMajor_val_two]; simp [S8x1x1024, S8x1024, h1])

/-- The row a point stores for its membranes is that row of `memBlock`. -/
theorem mem_piece (x0 x1 : Vec F S8x128x1024 .f32) (x2 : Vec F S1x1024 .f32) (h : FVec F S8x1024 .f32) (n k : ℕ)
    (hb : ∀ a, (![0, n, 0] : Fin 3 → ℕ) a + (![8, 1, 1024] : Fin 3 → ℕ) a ≤ S8x128x1024.size a) (hs : S8x1024.ShapeCasts S8x1x1024)
    (hk : k = n + 1) :
    ∀ x : (Rect.unit (s := S8x128x1024) ![0, n, 0] ![8, 1, 1024] hb).shape.Idx,
      @Eq (Elt F .f32) (shapeCast (α := F .f32) S8x1x1024 (state x0 x1 x2 h k) hs x)
        (memBlock x0 x1 x2 h ((Rect.unit (s := S8x128x1024) ![0, n, 0] ![8, 1, 1024] hb).emb x)) := by
  subst hk
  intro x
  rw [unflatten]
  show _ = state x0 x1 x2 h (_ + 1) _
  rw [(row_emb n hb x).1]
  exact congrArg _ (row_emb n hb x).2.symm

/-- The row a point stores for its spikes is that row of `spkBlock`. -/
theorem spk_piece (x0 x1 : Vec F S8x128x1024 .f32) (x2 : Vec F S1x1024 .f32) (h : FVec F S8x1024 .f32) (n : ℕ)
    (hb : ∀ a, (![0, n, 0] : Fin 3 → ℕ) a + (![8, 1, 1024] : Fin 3 → ℕ) a ≤ S8x128x1024.size a) (hs : S8x1024.ShapeCasts S8x1x1024) :
    ∀ x : (Rect.unit (s := S8x128x1024) ![0, n, 0] ![8, 1, 1024] hb).shape.Idx,
      @Eq (Elt F .f32) (shapeCast (α := F .f32) S8x1x1024 (spikes x0 x1 x2 h n) hs x)
        (spkBlock x0 x1 x2 h ((Rect.unit (s := S8x128x1024) ![0, n, 0] ![8, 1, 1024] hb).emb x)) := by
  intro x
  rw [unflatten]
  show _ = spikes x0 x1 x2 h _ _
  rw [(row_emb n hb x).1]
  exact congrArg _ (row_emb n hb x).2.symm

/-- The last store of the carried membrane is whole, so it alone is what the membrane holds. -/
theorem stored_state (v : FVec F S8x1024 .f32)
    (hb : ∀ a, (![0, 0] : Fin 2 → ℕ) a + (![8, 1024] : Fin 2 → ℕ) a ≤ S8x1024.size a) (hs : S8x1024.ShapeCasts S8x1024)
    (L : List (View.Piece (Elt F) S8x1024 .f32)) :
    View.canon ((⟨Rect.unit (s := S8x1024) ![0, 0] ![8, 1024] hb, shapeCast (α := F .f32) S8x1024 v hs⟩ : View.Piece (Elt F) S8x1024 .f32) :: L) = v :=
  (View.canon_cons_unit_lit hb _ L (by intro a; fin_cases a <;> rfl)).trans (shapeCast_self _ hs)

end Cert.Proof.Block
-- ==== Proof.CaseA.lean ====
module

public import proofs.«01_k».proof.Proof.Block

/-! The blocks written by the first point of a batch group, which starts from the initial membrane. -/

@[expose] public section

set_option maxRecDepth 65536

noncomputable section

namespace Cert.Proof.Block

open Idealize.ShloMosaic Idealize.ShloMosaic.TcCoe Idealize.ShloMosaic.ValueIdx Cert.KernelIdeal Cert.KernelIdeal.Gen

variable {F : FTy → Type} [FloatOps F]

set_option maxHeartbeats 0 in
/-- Every row stored by the first point of a batch group, which starts from the initial membrane
    is a row of the membrane block, respectively of the spike block, and the membrane it leaves to the next point is the state after
    its 128 rows. -/
theorem stores_A (c : Dev nD) (i : grid0.Coords) (arg2 : Memref sig .tc .vmem S8x128x1024 .f32) (harg2 : arg2.IsWhole)
    (arg3 : Memref sig .tc .vmem S8x128x1024 .f32) (harg3 : arg3.IsWhole) (arg4 : Memref sig .tc .vmem S1x1024 .f32) (harg4 : arg4.IsWhole)
    (arg5 : Memref sig .tc .vmem S1x8x1024 .f32) (harg5 : arg5.IsWhole) (arg6 : Memref sig .tc .vmem S8x128x1024 .f32) (harg6 : arg6.IsWhole)
    (arg7 : Memref sig .tc .vmem S8x128x1024 .f32) (harg7 : arg7.IsWhole) (arg8 : Memref sig .tc .vmem S8x1024 .f32) (harg8 : arg8.IsWhole) (hc0 : cond0_0 i)
    (x0 x1 : Vec F S8x128x1024 .f32) (x2 : Vec F S1x1024 .f32) (x3 : Vec F S1x8x1024 .f32) :
    View.PiecesOf (memBlock x0 x1 x2 (start x3)) (kernelRun0_A c i arg2 harg2 arg3 harg3 arg4 harg4 arg5 harg5 arg6 harg6 arg7 harg7 arg8 harg8 hc0 x0 x1 x2 x3).1 ∧
      View.PiecesOf (spkBlock x0 x1 x2 (start x3)) (kernelRun0_A c i arg2 harg2 arg3 harg3 arg4 harg4 arg5 harg5 arg6 harg6 arg7 harg7 arg8 harg8 hc0 x0 x1 x2 x3).2.1 ∧
      View.canon (kernelRun0_A c i arg2 harg2 arg3 harg3 arg4 harg4 arg5 harg5 arg6 harg6 arg7 harg7 arg8 harg8 hc0 x0 x1 x2 x3).2.2.1 = state x0 x1 x2 (start x3) 128 := by
  unfold kernelRun0_A
  dsimp only
  have hh := load_start c harg5 arg8 x0 x1 x2 x3
  simp only [View.PiecesOf, hh, load_row, load_threshold, raw_fold, above_fold, state_fold, spikes_fold, Nat.reduceAdd,
      kernelRun0_A.sl.r, kernelRun0_A.sl.r_1, kernelRun0_A.sl.r_2, kernelRun0_A.sl.r_3, kernelRun0_A.sl.r_4, kernelRun0_A.sl.r_5, kernelRun0_A.sl.r_6,
      kernelRun0_A.sl.r_7, kernelRun0_A.sl.r_8, kernelRun0_A.sl.r_9, kernelRun0_A.sl.r_10, kernelRun0_A.sl.r_11, kernelRun0_A.sl.r_12, kernelRun0_A.sl.r_13,
      kernelRun0_A.sl.r_14, kernelRun0_A.sl.r_15, kernelRun0_A.sl.r_16, kernelRun0_A.sl.r_17, kernelRun0_A.sl.r_18, kernelRun0_A.sl.r_19,
      kernelRun0_A.sl.r_20, kernelRun0_A.sl.r_21, kernelRun0_A.sl.r_22, kernelRun0_A.sl.r_23, kernelRun0_A.sl.r_24, kernelRun0_A.sl.r_25,
      kernelRun0_A.sl.r_26, kernelRun0_A.sl.r_27, kernelRun0_A.sl.r_28, kernelRun0_A.sl.r_29, kernelRun0_A.sl.r_30, kernelRun0_A.sl.r_31,
      kernelRun0_A.sl.r_32, kernelRun0_A.sl.r_33, kernelRun0_A.sl.r_34, kernelRun0_A.sl.r_35, kernelRun0_A.sl.r_36, kernelRun0_A.sl.r_37,
      kernelRun0_A.sl.r_38, kernelRun0_A.sl.r_39, kernelRun0_A.sl.r_40, kernelRun0_A.sl.r_41, kernelRun0_A.sl.r_42, kernelRun0_A.sl.r_43,
      kernelRun0_A.sl.r_44, kernelRun0_A.sl.r_45, kernelRun0_A.sl.r_46, kernelRun0_A.sl.r_47, kernelRun0_A.sl.r_48, kernelRun0_A.sl.r_49,
      kernelRun0_A.sl.r_50, kernelRun0_A.sl.r_51, kernelRun0_A.sl.r_52, kernelRun0_A.sl.r_53, kernelRun0_A.sl.r_54, kernelRun0_A.sl.r_55,
      kernelRun0_A.sl.r_56, kernelRun0_A.sl.r_57, kernelRun0_A.sl.r_58, kernelRun0_A.sl.r_59, kernelRun0_A.sl.r_60, kernelRun0_A.sl.r_61,
      kernelRun0_A.sl.r_62, kernelRun0_A.sl.r_63, kernelRun0_A.sl.r_64, kernelRun0_A.sl.r_65, kernelRun0_A.sl.r_66, kernelRun0_A.sl.r_67,
      kernelRun0_A.sl.r_68, kernelRun0_A.sl.r_69, kernelRun0_A.sl.r_70, kernelRun0_A.sl.r_71, kernelRun0_A.sl.r_72, kernelRun0_A.sl.r_73,
      kernelRun0_A.sl.r_74, kernelRun0_A.sl.r_75, kernelRun0_A.sl.r_76, kernelRun0_A.sl.r_77, kernelRun0_A.sl.r_78, kernelRun0_A.sl.r_79,
      kernelRun0_A.sl.r_80, kernelRun0_A.sl.r_81, kernelRun0_A.sl.r_82, kernelRun0_A.sl.r_83, kernelRun0_A.sl.r_84, kernelRun0_A.sl.r_85,
      kernelRun0_A.sl.r_86, kernelRun0_A.sl.r_87, kernelRun0_A.sl.r_88, kernelRun0_A.sl.r_89, kernelRun0_A.sl.r_90, kernelRun0_A.sl.r_91,
      kernelRun0_A.sl.r_92, kernelRun0_A.sl.r_93, kernelRun0_A.sl.r_94, kernelRun0_A.sl.r_95, kernelRun0_A.sl.r_96, kernelRun0_A.sl.r_97,
      kernelRun0_A.sl.r_98, kernelRun0_A.sl.r_99, kernelRun0_A.sl.r_100, kernelRun0_A.sl.r_101, kernelRun0_A.sl.r_102, kernelRun0_A.sl.r_103,
      kernelRun0_A.sl.r_104, kernelRun0_A.sl.r_105, kernelRun0_A.sl.r_106, kernelRun0_A.sl.r_107, kernelRun0_A.sl.r_108, kernelRun0_A.sl.r_109,
      kernelRun0_A.sl.r_110, kernelRun0_A.sl.r_111, kernelRun0_A.sl.r_112, kernelRun0_A.sl.r_113, kernelRun0_A.sl.r_114, kernelRun0_A.sl.r_115,
      kernelRun0_A.sl.r_116, kernelRun0_A.sl.r_117, kernelRun0_A.sl.r_118, kernelRun0_A.sl.r_119, kernelRun0_A.sl.r_120, kernelRun0_A.sl.r_121,
      kernelRun0_A.sl.r_122, kernelRun0_A.sl.r_123, kernelRun0_A.sl.r_124, kernelRun0_A.sl.r_125, kernelRun0_A.sl.r_126, kernelRun0_A.sl.r_127,
      kernelRun0_A.sl.r_128,
      k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129, k0_pay130, k0_pay131,
      k0_pay132, k0_pay133, k0_pay134, k0_pay135, k0_pay136, k0_pay137, k0_pay138, k0_pay139, k0_pay140, k0_pay141, k0_pay142, k0_pay143, k0_pay144,
      k0_pay145, k0_pay146, k0_pay147, k0_pay148, k0_pay149, k0_pay150, k0_pay151, k0_pay152, k0_pay153, k0_pay154, k0_pay155, k0_pay156, k0_pay157,
      k0_pay158, k0_pay159, k0_pay160, k0_pay161, k0_pay162, k0_pay163, k0_pay164, k0_pay165, k0_pay166, k0_pay167, k0_pay168, k0_pay169, k0_pay170,
      k0_pay171, k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay193, k0_pay194, k0_pay195, k0_pay196,
      k0_pay197, k0_pay198, k0_pay199, k0_pay200, k0_pay201, k0_pay202, k0_pay203, k0_pay204, k0_pay205, k0_pay206, k0_pay207, k0_pay208, k0_pay209,
      k0_pay210, k0_pay211, k0_pay212, k0_pay213, k0_pay214, k0_pay215, k0_pay216, k0_pay217, k0_pay218, k0_pay219, k0_pay220, k0_pay221, k0_pay222,
      k0_pay223, k0_pay224, k0_pay225, k0_pay226, k0_pay227, k0_pay228, k0_pay229, k0_pay230, k0_pay231, k0_pay232, k0_pay233, k0_pay234, k0_pay235,
      k0_pay236, k0_pay237, k0_pay238, k0_pay239, k0_pay240, k0_pay241, k0_pay242, k0_pay243, k0_pay244, k0_pay245, k0_pay246, k0_pay247, k0_pay248,
      k0_pay249, k0_pay250, k0_pay251, k0_pay252, k0_pay253, k0_pay254, k0_pay255, k0_pay256, k0_pay257, k0_pay258, k0_pay259, k0_pay260, k0_pay261,
      k0_pay262, k0_pay263, k0_pay264, k0_pay265, k0_pay266, k0_pay267, k0_pay268, k0_pay269, k0_pay270, k0_pay271, k0_pay272, k0_pay273, k0_pay274,
      k0_pay275, k0_pay276, k0_pay277, k0_pay278, k0_pay279, k0_pay280, k0_pay281, k0_pay282, k0_pay283, k0_pay284, k0_pay285, k0_pay286, k0_pay287,
      k0_pay288, k0_pay289, k0_pay290, k0_pay291, k0_pay292, k0_pay293, k0_pay294, k0_pay295, k0_pay296, k0_pay297, k0_pay298, k0_pay299, k0_pay300,
      k0_pay301, k0_pay302, k0_pay303, k0_pay304, k0_pay305, k0_pay306, k0_pay307, k0_pay308, k0_pay309, k0_pay310, k0_pay311, k0_pay312, k0_pay313,
      k0_pay314, k0_pay315, k0_pay316, k0_pay317, k0_pay318, k0_pay319, k0_pay320, k0_pay321, k0_pay322, k0_pay323, k0_pay324, k0_pay325, k0_pay326,
      k0_pay327, k0_pay328, k0_pay329, k0_pay330, k0_pay331, k0_pay332, k0_pay333, k0_pay334, k0_pay335, k0_pay336, k0_pay337, k0_pay338, k0_pay339,
      k0_pay340, k0_pay341, k0_pay342, k0_pay343, k0_pay344, k0_pay345, k0_pay346, k0_pay347, k0_pay348, k0_pay349, k0_pay350, k0_pay351, k0_pay352,
      k0_pay353, k0_pay354, k0_pay355, k0_pay356, k0_pay357, k0_pay358, k0_pay359, k0_pay360, k0_pay361, k0_pay362, k0_pay363, k0_pay364, k0_pay365,
      k0_pay366, k0_pay367, k0_pay368, k0_pay369, k0_pay370, k0_pay371, k0_pay372, k0_pay373, k0_pay374, k0_pay375, k0_pay376, k0_pay377, k0_pay378,
      k0_pay379, k0_pay380, k0_pay381, k0_pay382, k0_pay383, k0_pay384, k0_pay385, k0_pay386, k0_pay387, k0_pay388, k0_pay389, k0_pay390, k0_pay391,
      k0_pay392, k0_pay393, k0_pay394, k0_pay395, k0_pay396, k0_pay397, k0_pay398, k0_pay399, k0_pay400, k0_pay401, k0_pay402, k0_pay403, k0_pay404,
      k0_pay405, k0_pay406, k0_pay407, k0_pay408, k0_pay409, k0_pay410, k0_pay411, k0_pay412, k0_pay413, k0_pay414, k0_pay415, k0_pay416, k0_pay417,
      k0_pay418, k0_pay419, k0_pay420, k0_pay421, k0_pay422, k0_pay423, k0_pay424, k0_pay425, k0_pay426, k0_pay427, k0_pay428, k0_pay429, k0_pay430,
      k0_pay431, k0_pay432, k0_pay433, k0_pay434, k0_pay435, k0_pay436, k0_pay437, k0_pay438, k0_pay439, k0_pay440, k0_pay441, k0_pay442, k0_pay443,
      k0_pay444, k0_pay445, k0_pay446, k0_pay447, k0_pay448, k0_pay449, k0_pay450, k0_pay451, k0_pay452, k0_pay453, k0_pay454, k0_pay455, k0_pay456,
      k0_pay457, k0_pay458, k0_pay459, k0_pay460, k0_pay461, k0_pay462, k0_pay463, k0_pay464, k0_pay465, k0_pay466, k0_pay467, k0_pay468, k0_pay469,
      k0_pay470, k0_pay471, k0_pay472, k0_pay473, k0_pay474, k0_pay475, k0_pay476, k0_pay477, k0_pay478, k0_pay479, k0_pay480, k0_pay481, k0_pay482,
      k0_pay483, k0_pay484, k0_pay485, k0_pay486, k0_pay487, k0_pay488, k0_pay489, k0_pay490, k0_pay491, k0_pay492, k0_pay493, k0_pay494, k0_pay495,
      k0_pay496, k0_pay497, k0_pay498, k0_pay499, k0_pay500, k0_pay501, k0_pay502, k0_pay503, k0_pay504, k0_pay505, k0_pay506, k0_pay507, k0_pay508,
      k0_pay509, k0_pay510, k0_pay511, k0_pay512, k0_pay513, k0_pay514, k0_pay515, k0_pay516, k0_pay517, k0_pay518, k0_pay519, k0_pay520, k0_pay521,
      k0_pay522, k0_pay523, k0_pay524, k0_pay525, k0_pay526, k0_pay527, k0_pay528, k0_pay529, k0_pay530, k0_pay531, k0_pay532, k0_pay533, k0_pay534,
      k0_pay535, k0_pay536, k0_pay537, k0_pay538, k0_pay539, k0_pay540, k0_pay541, k0_pay542, k0_pay543, k0_pay544, k0_pay545, k0_pay546, k0_pay547,
      k0_pay548, k0_pay549, k0_pay550, k0_pay551, k0_pay552, k0_pay553, k0_pay554, k0_pay555, k0_pay556, k0_pay557, k0_pay558, k0_pay559, k0_pay560,
      k0_pay561, k0_pay562, k0_pay563, k0_pay564, k0_pay565, k0_pay566, k0_pay567, k0_pay568, k0_pay569, k0_pay570, k0_pay571, k0_pay572, k0_pay573,
      k0_pay574, k0_pay575, k0_pay576, k0_pay577, k0_pay578, k0_pay579, k0_pay580, k0_pay581, k0_pay582, k0_pay583, k0_pay584, k0_pay585, k0_pay586,
      k0_pay587, k0_pay588, k0_pay589, k0_pay590, k0_pay591, k0_pay592, k0_pay593, k0_pay594, k0_pay595, k0_pay596, k0_pay597, k0_pay598, k0_pay599,
      k0_pay600, k0_pay601, k0_pay602, k0_pay603, k0_pay604, k0_pay605, k0_pay606, k0_pay607, k0_pay608, k0_pay609, k0_pay610, k0_pay611, k0_pay612,
      k0_pay613, k0_pay614, k0_pay615, k0_pay616, k0_pay617, k0_pay618, k0_pay619, k0_pay620, k0_pay621, k0_pay622, k0_pay623, k0_pay624, k0_pay625,
      k0_pay626, k0_pay627, k0_pay628, k0_pay629, k0_pay630, k0_pay631, k0_pay632, k0_pay633, k0_pay634, k0_pay635, k0_pay636, k0_pay637, k0_pay638,
      k0_pay639, k0_pay640, k0_pay641, k0_pay642, k0_pay643, k0_pay644, k0_pay645, k0_pay646, k0_pay647, k0_pay648, k0_pay649, k0_pay650, k0_pay651,
      k0_pay652, k0_pay653, k0_pay654, k0_pay655, k0_pay656, k0_pay657, k0_pay658, k0_pay659, k0_pay660, k0_pay661, k0_pay662, k0_pay663, k0_pay664,
      k0_pay665, k0_pay666, k0_pay667, k0_pay668, k0_pay669, k0_pay670, k0_pay671, k0_pay672, k0_pay673, k0_pay674, k0_pay675, k0_pay676, k0_pay677,
      k0_pay678, k0_pay679, k0_pay680, k0_pay681, k0_pay682, k0_pay683, k0_pay684, k0_pay685, k0_pay686, k0_pay687, k0_pay688, k0_pay689, k0_pay690,
      k0_pay691, k0_pay692, k0_pay693, k0_pay694, k0_pay695]
  refine ⟨?_, ?_, ?_⟩
  · repeat refine And.intro (mem_piece x0 x1 x2 (start x3) _ _ _ _ rfl) ?_
    exact trivial
  · repeat refine And.intro (spk_piece x0 x1 x2 (start x3) _ _ _) ?_
    exact trivial
  · exact stored_state _ _ _ _

/-- What the first point of a batch group, which starts from the initial membrane leaves in the membrane output. -/
theorem out_A_4 (c : Dev nD) (i : grid0.Coords) (arg2 : Memref sig .tc .vmem S8x128x1024 .f32) (harg2 : arg2.IsWhole)
    (arg3 : Memref sig .tc .vmem S8x128x1024 .f32) (harg3 : arg3.IsWhole) (arg4 : Memref sig .tc .vmem S1x1024 .f32) (harg4 : arg4.IsWhole)
    (arg5 : Memref sig .tc .vmem S1x8x1024 .f32) (harg5 : arg5.IsWhole) (arg6 : Memref sig .tc .vmem S8x128x1024 .f32) (harg6 : arg6.IsWhole)
    (arg7 : Memref sig .tc .vmem S8x128x1024 .f32) (harg7 : arg7.IsWhole) (arg8 : Memref sig .tc .vmem S8x1024 .f32) (harg8 : arg8.IsWhole) (hc0 : cond0_0 i)
    (x0 x1 : Vec F S8x128x1024 .f32) (x2 : Vec F S1x1024 .f32) (x3 : Vec F S1x8x1024 .f32) :
    out0_A_4 c i arg2 harg2 arg3 harg3 arg4 harg4 arg5 harg5 arg6 harg6 arg7 harg7 arg8 harg8 hc0 x0 x1 x2 x3 = memBlock x0 x1 x2 (start x3) := by
  unfold out0_A_4
  funext y
  rw [View.read_writes_eq_canon _ _ _ (cover0_A_4 c i arg2 harg2 arg3 harg3 arg4 harg4 arg5 harg5 arg6 harg6 arg7 harg7 arg8 harg8 hc0 x0 x1 x2 x3)]
  exact View.canon_apply_of_pieces _ _ (stores_A c i arg2 harg2 arg3 harg3 arg4 harg4 arg5 harg5 arg6 harg6 arg7 harg7 arg8 harg8 hc0 x0 x1 x2 x3).1.mem y (cover0_A_4 c i arg2 harg2 arg3 harg3 arg4 harg4 arg5 harg5 arg6 harg6 arg7 harg7 arg8 harg8 hc0 x0 x1 x2 x3 y)

/-- What the first point of a batch group, which starts from the initial membrane leaves in the spike output. -/
theorem out_A_5 (c : Dev nD) (i : grid0.Coords) (arg2 : Memref sig .tc .vmem S8x128x1024 .f32) (harg2 : arg2.IsWhole)
    (arg3 : Memref sig .tc .vmem S8x128x1024 .f32) (harg3 : arg3.IsWhole) (arg4 : Memref sig .tc .vmem S1x1024 .f32) (harg4 : arg4.IsWhole)
    (arg5 : Memref sig .tc .vmem S1x8x1024 .f32) (harg5 : arg5.IsWhole) (arg6 : Memref sig .tc .vmem S8x128x1024 .f32) (harg6 : arg6.IsWhole)
    (arg7 : Memref sig .tc .vmem S8x128x1024 .f32) (harg7 : arg7.IsWhole) (arg8 : Memref sig .tc .vmem S8x1024 .f32) (harg8 : arg8.IsWhole) (hc0 : cond0_0 i)
    (x0 x1 : Vec F S8x128x1024 .f32) (x2 : Vec F S1x1024 .f32) (x3 : Vec F S1x8x1024 .f32) :
    out0_A_5 c i arg2 harg2 arg3 harg3 arg4 harg4 arg5 harg5 arg6 harg6 arg7 harg7 arg8 harg8 hc0 x0 x1 x2 x3 = spkBlock x0 x1 x2 (start x3) := by
  unfold out0_A_5
  funext y
  rw [View.read_writes_eq_canon _ _ _ (cover0_A_5 c i arg2 harg2 arg3 harg3 arg4 harg4 arg5 harg5 arg6 harg6 arg7 harg7 arg8 harg8 hc0 x0 x1 x2 x3)]
  exact View.canon_apply_of_pieces _ _ (stores_A c i arg2 harg2 arg3 harg3 arg4 harg4 arg5 harg5 arg6 harg6 arg7 harg7 arg8 harg8 hc0 x0 x1 x2 x3).2.1.mem y (cover0_A_5 c i arg2 harg2 arg3 harg3 arg4 harg4 arg5 harg5 arg6 harg6 arg7 harg7 arg8 harg8 hc0 x0 x1 x2 x3 y)

/-- What the first point of a batch group, which starts from the initial membrane leaves in the carried membrane. -/
theorem sout_A (c : Dev nD) (i : grid0.Coords) (arg2 : Memref sig .tc .vmem S8x128x1024 .f32) (harg2 : arg2.IsWhole)
    (arg3 : Memref sig .tc .vmem S8x128x1024 .f32) (harg3 : arg3.IsWhole) (arg4 : Memref sig .tc .vmem S1x1024 .f32) (harg4 : arg4.IsWhole)
    (arg5 : Memref sig .tc .vmem S1x8x1024 .f32) (harg5 : arg5.IsWhole) (arg6 : Memref sig .tc .vmem S8x128x1024 .f32) (harg6 : arg6.IsWhole)
    (arg7 : Memref sig .tc .vmem S8x128x1024 .f32) (harg7 : arg7.IsWhole) (arg8 : Memref sig .tc .vmem S8x1024 .f32) (harg8 : arg8.IsWhole) (hc0 : cond0_0 i)
    (x0 x1 : Vec F S8x128x1024 .f32) (x2 : Vec F S1x1024 .f32) (x3 : Vec F S1x8x1024 .f32) :
    sout0_A_0 c i arg2 harg2 arg3 harg3 arg4 harg4 arg5 harg5 arg6 harg6 arg7 harg7 arg8 harg8 hc0 x0 x1 x2 x3 = state x0 x1 x2 (start x3) 128 := by
  unfold sout0_A_0
  rw [View.read_writes_eq_canon _ _ _ (scover0_A_0 c i arg2 harg2 arg3 harg3 arg4 harg4 arg5 harg5 arg6 harg6 arg7 harg7 arg8 harg8 hc0 x0 x1 x2 x3)]
  exact (stores_A c i arg2 harg2 arg3 harg3 arg4 harg4 arg5 harg5 arg6 harg6 arg7 harg7 arg8 harg8 hc0 x0 x1 x2 x3).2.2

end Cert.Proof.Block
-- ==== Proof.CaseB.lean ====
module

public import proofs.«01_k».proof.Proof.Block

/-! The blocks written by a later point of a batch group, which starts from the membrane carried to it. -/

@[expose] public section

set_option maxRecDepth 65536

noncomputable section

namespace Cert.Proof.Block

open Idealize.ShloMosaic Idealize.ShloMosaic.TcCoe Idealize.ShloMosaic.ValueIdx Cert.KernelIdeal Cert.KernelIdeal.Gen

variable {F : FTy → Type} [FloatOps F]

set_option maxHeartbeats 0 in
/-- Every row stored by a later point of a batch group, which starts from the membrane carried to it
    is a row of the membrane block, respectively of the spike block, and the membrane it leaves to the next point is the state after
    its 128 rows. -/
theorem stores_B (c : Dev nD) (i : grid0.Coords) (arg2 : Memref sig .tc .vmem S8x128x1024 .f32) (harg2 : arg2.IsWhole)
    (arg3 : Memref sig .tc .vmem S8x128x1024 .f32) (harg3 : arg3.IsWhole) (arg4 : Memref sig .tc .vmem S1x1024 .f32) (harg4 : arg4.IsWhole)
    (arg5 : Memref sig .tc .vmem S1x8x1024 .f32) (harg5 : arg5.IsWhole) (arg6 : Memref sig .tc .vmem S8x128x1024 .f32) (harg6 : arg6.IsWhole)
    (arg7 : Memref sig .tc .vmem S8x128x1024 .f32) (harg7 : arg7.IsWhole) (arg8 : Memref sig .tc .vmem S8x1024 .f32) (harg8 : arg8.IsWhole) (hc0 : ¬cond0_0 i)
    (x0 x1 : Vec F S8x128x1024 .f32) (x2 : Vec F S1x1024 .f32) (x3 : Vec F S1x8x1024 .f32) (xs0 : Vec F S8x1024 .f32) :
    View.PiecesOf (memBlock x0 x1 x2 xs0) (kernelRun0_B c i arg2 harg2 arg3 harg3 arg4 harg4 arg5 harg5 arg6 harg6 arg7 harg7 arg8 harg8 hc0 x0 x1 x2 x3 xs0).1 ∧
      View.PiecesOf (spkBlock x0 x1 x2 xs0) (kernelRun0_B c i arg2 harg2 arg3 harg3 arg4 harg4 arg5 harg5 arg6 harg6 arg7 harg7 arg8 harg8 hc0 x0 x1 x2 x3 xs0).2.1 ∧
      View.canon (kernelRun0_B c i arg2 harg2 arg3 harg3 arg4 harg4 arg5 harg5 arg6 harg6 arg7 harg7 arg8 harg8 hc0 x0 x1 x2 x3 xs0).2.2.1 = state x0 x1 x2 xs0 128 := by
  unfold kernelRun0_B
  dsimp only
  have hh := load_state harg8 x0 x1 x2 xs0 inb_S8x1024_S8x1024_0_0
  simp only [View.PiecesOf, hh, load_row, load_threshold, raw_fold, above_fold, state_fold, spikes_fold, Nat.reduceAdd,
      kernelRun0_B.sl.r, kernelRun0_B.sl.r_1, kernelRun0_B.sl.r_2, kernelRun0_B.sl.r_3, kernelRun0_B.sl.r_4, kernelRun0_B.sl.r_5, kernelRun0_B.sl.r_6,
      kernelRun0_B.sl.r_7, kernelRun0_B.sl.r_8, kernelRun0_B.sl.r_9, kernelRun0_B.sl.r_10, kernelRun0_B.sl.r_11, kernelRun0_B.sl.r_12, kernelRun0_B.sl.r_13,
      kernelRun0_B.sl.r_14, kernelRun0_B.sl.r_15, kernelRun0_B.sl.r_16, kernelRun0_B.sl.r_17, kernelRun0_B.sl.r_18, kernelRun0_B.sl.r_19,
      kernelRun0_B.sl.r_20, kernelRun0_B.sl.r_21, kernelRun0_B.sl.r_22, kernelRun0_B.sl.r_23, kernelRun0_B.sl.r_24, kernelRun0_B.sl.r_25,
      kernelRun0_B.sl.r_26, kernelRun0_B.sl.r_27, kernelRun0_B.sl.r_28, kernelRun0_B.sl.r_29, kernelRun0_B.sl.r_30, kernelRun0_B.sl.r_31,
      kernelRun0_B.sl.r_32, kernelRun0_B.sl.r_33, kernelRun0_B.sl.r_34, kernelRun0_B.sl.r_35, kernelRun0_B.sl.r_36, kernelRun0_B.sl.r_37,
      kernelRun0_B.sl.r_38, kernelRun0_B.sl.r_39, kernelRun0_B.sl.r_40, kernelRun0_B.sl.r_41, kernelRun0_B.sl.r_42, kernelRun0_B.sl.r_43,
      kernelRun0_B.sl.r_44, kernelRun0_B.sl.r_45, kernelRun0_B.sl.r_46, kernelRun0_B.sl.r_47, kernelRun0_B.sl.r_48, kernelRun0_B.sl.r_49,
      kernelRun0_B.sl.r_50, kernelRun0_B.sl.r_51, kernelRun0_B.sl.r_52, kernelRun0_B.sl.r_53, kernelRun0_B.sl.r_54, kernelRun0_B.sl.r_55,
      kernelRun0_B.sl.r_56, kernelRun0_B.sl.r_57, kernelRun0_B.sl.r_58, kernelRun0_B.sl.r_59, kernelRun0_B.sl.r_60, kernelRun0_B.sl.r_61,
      kernelRun0_B.sl.r_62, kernelRun0_B.sl.r_63, kernelRun0_B.sl.r_64, kernelRun0_B.sl.r_65, kernelRun0_B.sl.r_66, kernelRun0_B.sl.r_67,
      kernelRun0_B.sl.r_68, kernelRun0_B.sl.r_69, kernelRun0_B.sl.r_70, kernelRun0_B.sl.r_71, kernelRun0_B.sl.r_72, kernelRun0_B.sl.r_73,
      kernelRun0_B.sl.r_74, kernelRun0_B.sl.r_75, kernelRun0_B.sl.r_76, kernelRun0_B.sl.r_77, kernelRun0_B.sl.r_78, kernelRun0_B.sl.r_79,
      kernelRun0_B.sl.r_80, kernelRun0_B.sl.r_81, kernelRun0_B.sl.r_82, kernelRun0_B.sl.r_83, kernelRun0_B.sl.r_84, kernelRun0_B.sl.r_85,
      kernelRun0_B.sl.r_86, kernelRun0_B.sl.r_87, kernelRun0_B.sl.r_88, kernelRun0_B.sl.r_89, kernelRun0_B.sl.r_90, kernelRun0_B.sl.r_91,
      kernelRun0_B.sl.r_92, kernelRun0_B.sl.r_93, kernelRun0_B.sl.r_94, kernelRun0_B.sl.r_95, kernelRun0_B.sl.r_96, kernelRun0_B.sl.r_97,
      kernelRun0_B.sl.r_98, kernelRun0_B.sl.r_99, kernelRun0_B.sl.r_100, kernelRun0_B.sl.r_101, kernelRun0_B.sl.r_102, kernelRun0_B.sl.r_103,
      kernelRun0_B.sl.r_104, kernelRun0_B.sl.r_105, kernelRun0_B.sl.r_106, kernelRun0_B.sl.r_107, kernelRun0_B.sl.r_108, kernelRun0_B.sl.r_109,
      kernelRun0_B.sl.r_110, kernelRun0_B.sl.r_111, kernelRun0_B.sl.r_112, kernelRun0_B.sl.r_113, kernelRun0_B.sl.r_114, kernelRun0_B.sl.r_115,
      kernelRun0_B.sl.r_116, kernelRun0_B.sl.r_117, kernelRun0_B.sl.r_118, kernelRun0_B.sl.r_119, kernelRun0_B.sl.r_120, kernelRun0_B.sl.r_121,
      kernelRun0_B.sl.r_122, kernelRun0_B.sl.r_123, kernelRun0_B.sl.r_124, kernelRun0_B.sl.r_125, kernelRun0_B.sl.r_126, kernelRun0_B.sl.r_127,
      kernelRun0_B.sl.r_128,
      k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129, k0_pay130, k0_pay131,
      k0_pay132, k0_pay133, k0_pay134, k0_pay135, k0_pay136, k0_pay137, k0_pay138, k0_pay139, k0_pay140, k0_pay141, k0_pay142, k0_pay143, k0_pay144,
      k0_pay145, k0_pay146, k0_pay147, k0_pay148, k0_pay149, k0_pay150, k0_pay151, k0_pay152, k0_pay153, k0_pay154, k0_pay155, k0_pay156, k0_pay157,
      k0_pay158, k0_pay159, k0_pay160, k0_pay161, k0_pay162, k0_pay163, k0_pay164, k0_pay165, k0_pay166, k0_pay167, k0_pay168, k0_pay169, k0_pay170,
      k0_pay171, k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay193, k0_pay194, k0_pay195, k0_pay196,
      k0_pay197, k0_pay198, k0_pay199, k0_pay200, k0_pay201, k0_pay202, k0_pay203, k0_pay204, k0_pay205, k0_pay206, k0_pay207, k0_pay208, k0_pay209,
      k0_pay210, k0_pay211, k0_pay212, k0_pay213, k0_pay214, k0_pay215, k0_pay216, k0_pay217, k0_pay218, k0_pay219, k0_pay220, k0_pay221, k0_pay222,
      k0_pay223, k0_pay224, k0_pay225, k0_pay226, k0_pay227, k0_pay228, k0_pay229, k0_pay230, k0_pay231, k0_pay232, k0_pay233, k0_pay234, k0_pay235,
      k0_pay236, k0_pay237, k0_pay238, k0_pay239, k0_pay240, k0_pay241, k0_pay242, k0_pay243, k0_pay244, k0_pay245, k0_pay246, k0_pay247, k0_pay248,
      k0_pay249, k0_pay250, k0_pay251, k0_pay252, k0_pay253, k0_pay254, k0_pay255, k0_pay256, k0_pay257, k0_pay258, k0_pay259, k0_pay260, k0_pay261,
      k0_pay262, k0_pay263, k0_pay264, k0_pay265, k0_pay266, k0_pay267, k0_pay268, k0_pay269, k0_pay270, k0_pay271, k0_pay272, k0_pay273, k0_pay274,
      k0_pay275, k0_pay276, k0_pay277, k0_pay278, k0_pay279, k0_pay280, k0_pay281, k0_pay282, k0_pay283, k0_pay284, k0_pay285, k0_pay286, k0_pay287,
      k0_pay288, k0_pay289, k0_pay290, k0_pay291, k0_pay292, k0_pay293, k0_pay294, k0_pay295, k0_pay296, k0_pay297, k0_pay298, k0_pay299, k0_pay300,
      k0_pay301, k0_pay302, k0_pay303, k0_pay304, k0_pay305, k0_pay306, k0_pay307, k0_pay308, k0_pay309, k0_pay310, k0_pay311, k0_pay312, k0_pay313,
      k0_pay314, k0_pay315, k0_pay316, k0_pay317, k0_pay318, k0_pay319, k0_pay320, k0_pay321, k0_pay322, k0_pay323, k0_pay324, k0_pay325, k0_pay326,
      k0_pay327, k0_pay328, k0_pay329, k0_pay330, k0_pay331, k0_pay332, k0_pay333, k0_pay334, k0_pay335, k0_pay336, k0_pay337, k0_pay338, k0_pay339,
      k0_pay340, k0_pay341, k0_pay342, k0_pay343, k0_pay344, k0_pay345, k0_pay346, k0_pay347, k0_pay348, k0_pay349, k0_pay350, k0_pay351, k0_pay352,
      k0_pay353, k0_pay354, k0_pay355, k0_pay356, k0_pay357, k0_pay358, k0_pay359, k0_pay360, k0_pay361, k0_pay362, k0_pay363, k0_pay364, k0_pay365,
      k0_pay366, k0_pay367, k0_pay368, k0_pay369, k0_pay370, k0_pay371, k0_pay372, k0_pay373, k0_pay374, k0_pay375, k0_pay376, k0_pay377, k0_pay378,
      k0_pay379, k0_pay380, k0_pay381, k0_pay382, k0_pay383, k0_pay384, k0_pay385, k0_pay386, k0_pay387, k0_pay388, k0_pay389, k0_pay390, k0_pay391,
      k0_pay392, k0_pay393, k0_pay394, k0_pay395, k0_pay396, k0_pay397, k0_pay398, k0_pay399, k0_pay400, k0_pay401, k0_pay402, k0_pay403, k0_pay404,
      k0_pay405, k0_pay406, k0_pay407, k0_pay408, k0_pay409, k0_pay410, k0_pay411, k0_pay412, k0_pay413, k0_pay414, k0_pay415, k0_pay416, k0_pay417,
      k0_pay418, k0_pay419, k0_pay420, k0_pay421, k0_pay422, k0_pay423, k0_pay424, k0_pay425, k0_pay426, k0_pay427, k0_pay428, k0_pay429, k0_pay430,
      k0_pay431, k0_pay432, k0_pay433, k0_pay434, k0_pay435, k0_pay436, k0_pay437, k0_pay438, k0_pay439, k0_pay440, k0_pay441, k0_pay442, k0_pay443,
      k0_pay444, k0_pay445, k0_pay446, k0_pay447, k0_pay448, k0_pay449, k0_pay450, k0_pay451, k0_pay452, k0_pay453, k0_pay454, k0_pay455, k0_pay456,
      k0_pay457, k0_pay458, k0_pay459, k0_pay460, k0_pay461, k0_pay462, k0_pay463, k0_pay464, k0_pay465, k0_pay466, k0_pay467, k0_pay468, k0_pay469,
      k0_pay470, k0_pay471, k0_pay472, k0_pay473, k0_pay474, k0_pay475, k0_pay476, k0_pay477, k0_pay478, k0_pay479, k0_pay480, k0_pay481, k0_pay482,
      k0_pay483, k0_pay484, k0_pay485, k0_pay486, k0_pay487, k0_pay488, k0_pay489, k0_pay490, k0_pay491, k0_pay492, k0_pay493, k0_pay494, k0_pay495,
      k0_pay496, k0_pay497, k0_pay498, k0_pay499, k0_pay500, k0_pay501, k0_pay502, k0_pay503, k0_pay504, k0_pay505, k0_pay506, k0_pay507, k0_pay508,
      k0_pay509, k0_pay510, k0_pay511, k0_pay512, k0_pay513, k0_pay514, k0_pay515, k0_pay516, k0_pay517, k0_pay518, k0_pay519, k0_pay520, k0_pay521,
      k0_pay522, k0_pay523, k0_pay524, k0_pay525, k0_pay526, k0_pay527, k0_pay528, k0_pay529, k0_pay530, k0_pay531, k0_pay532, k0_pay533, k0_pay534,
      k0_pay535, k0_pay536, k0_pay537, k0_pay538, k0_pay539, k0_pay540, k0_pay541, k0_pay542, k0_pay543, k0_pay544, k0_pay545, k0_pay546, k0_pay547,
      k0_pay548, k0_pay549, k0_pay550, k0_pay551, k0_pay552, k0_pay553, k0_pay554, k0_pay555, k0_pay556, k0_pay557, k0_pay558, k0_pay559, k0_pay560,
      k0_pay561, k0_pay562, k0_pay563, k0_pay564, k0_pay565, k0_pay566, k0_pay567, k0_pay568, k0_pay569, k0_pay570, k0_pay571, k0_pay572, k0_pay573,
      k0_pay574, k0_pay575, k0_pay576, k0_pay577, k0_pay578, k0_pay579, k0_pay580, k0_pay581, k0_pay582, k0_pay583, k0_pay584, k0_pay585, k0_pay586,
      k0_pay587, k0_pay588, k0_pay589, k0_pay590, k0_pay591, k0_pay592, k0_pay593, k0_pay594, k0_pay595, k0_pay596, k0_pay597, k0_pay598, k0_pay599,
      k0_pay600, k0_pay601, k0_pay602, k0_pay603, k0_pay604, k0_pay605, k0_pay606, k0_pay607, k0_pay608, k0_pay609, k0_pay610, k0_pay611, k0_pay612,
      k0_pay613, k0_pay614, k0_pay615, k0_pay616, k0_pay617, k0_pay618, k0_pay619, k0_pay620, k0_pay621, k0_pay622, k0_pay623, k0_pay624, k0_pay625,
      k0_pay626, k0_pay627, k0_pay628, k0_pay629, k0_pay630, k0_pay631, k0_pay632, k0_pay633, k0_pay634, k0_pay635, k0_pay636, k0_pay637, k0_pay638,
      k0_pay639, k0_pay640, k0_pay641, k0_pay642, k0_pay643, k0_pay644, k0_pay645, k0_pay646, k0_pay647, k0_pay648, k0_pay649, k0_pay650, k0_pay651,
      k0_pay652, k0_pay653, k0_pay654, k0_pay655, k0_pay656, k0_pay657, k0_pay658, k0_pay659, k0_pay660, k0_pay661, k0_pay662, k0_pay663, k0_pay664,
      k0_pay665, k0_pay666, k0_pay667, k0_pay668, k0_pay669, k0_pay670, k0_pay671, k0_pay672, k0_pay673, k0_pay674, k0_pay675, k0_pay676, k0_pay677,
      k0_pay678, k0_pay679, k0_pay680, k0_pay681, k0_pay682, k0_pay683, k0_pay684, k0_pay685, k0_pay686, k0_pay687, k0_pay688, k0_pay689, k0_pay690,
      k0_pay691, k0_pay692, k0_pay693, k0_pay694, k0_pay695]
  refine ⟨?_, ?_, ?_⟩
  · repeat refine And.intro (mem_piece x0 x1 x2 xs0 _ _ _ _ rfl) ?_
    exact trivial
  · repeat refine And.intro (spk_piece x0 x1 x2 xs0 _ _ _) ?_
    exact trivial
  · exact stored_state _ _ _ _

/-- What a later point of a batch group, which starts from the membrane carried to it leaves in the membrane output. -/
theorem out_B_4 (c : Dev nD) (i : grid0.Coords) (arg2 : Memref sig .tc .vmem S8x128x1024 .f32) (harg2 : arg2.IsWhole)
    (arg3 : Memref sig .tc .vmem S8x128x1024 .f32) (harg3 : arg3.IsWhole) (arg4 : Memref sig .tc .vmem S1x1024 .f32) (harg4 : arg4.IsWhole)
    (arg5 : Memref sig .tc .vmem S1x8x1024 .f32) (harg5 : arg5.IsWhole) (arg6 : Memref sig .tc .vmem S8x128x1024 .f32) (harg6 : arg6.IsWhole)
    (arg7 : Memref sig .tc .vmem S8x128x1024 .f32) (harg7 : arg7.IsWhole) (arg8 : Memref sig .tc .vmem S8x1024 .f32) (harg8 : arg8.IsWhole) (hc0 : ¬cond0_0 i)
    (x0 x1 : Vec F S8x128x1024 .f32) (x2 : Vec F S1x1024 .f32) (x3 : Vec F S1x8x1024 .f32) (xs0 : Vec F S8x1024 .f32) :
    out0_B_4 c i arg2 harg2 arg3 harg3 arg4 harg4 arg5 harg5 arg6 harg6 arg7 harg7 arg8 harg8 hc0 x0 x1 x2 x3 xs0 = memBlock x0 x1 x2 xs0 := by
  unfold out0_B_4
  funext y
  rw [View.read_writes_eq_canon _ _ _ (cover0_B_4 c i arg2 harg2 arg3 harg3 arg4 harg4 arg5 harg5 arg6 harg6 arg7 harg7 arg8 harg8 hc0 x0 x1 x2 x3 xs0)]
  exact View.canon_apply_of_pieces _ _ (stores_B c i arg2 harg2 arg3 harg3 arg4 harg4 arg5 harg5 arg6 harg6 arg7 harg7 arg8 harg8 hc0 x0 x1 x2 x3 xs0).1.mem y (cover0_B_4 c i arg2 harg2 arg3 harg3 arg4 harg4 arg5 harg5 arg6 harg6 arg7 harg7 arg8 harg8 hc0 x0 x1 x2 x3 xs0 y)

/-- What a later point of a batch group, which starts from the membrane carried to it leaves in the spike output. -/
theorem out_B_5 (c : Dev nD) (i : grid0.Coords) (arg2 : Memref sig .tc .vmem S8x128x1024 .f32) (harg2 : arg2.IsWhole)
    (arg3 : Memref sig .tc .vmem S8x128x1024 .f32) (harg3 : arg3.IsWhole) (arg4 : Memref sig .tc .vmem S1x1024 .f32) (harg4 : arg4.IsWhole)
    (arg5 : Memref sig .tc .vmem S1x8x1024 .f32) (harg5 : arg5.IsWhole) (arg6 : Memref sig .tc .vmem S8x128x1024 .f32) (harg6 : arg6.IsWhole)
    (arg7 : Memref sig .tc .vmem S8x128x1024 .f32) (harg7 : arg7.IsWhole) (arg8 : Memref sig .tc .vmem S8x1024 .f32) (harg8 : arg8.IsWhole) (hc0 : ¬cond0_0 i)
    (x0 x1 : Vec F S8x128x1024 .f32) (x2 : Vec F S1x1024 .f32) (x3 : Vec F S1x8x1024 .f32) (xs0 : Vec F S8x1024 .f32) :
    out0_B_5 c i arg2 harg2 arg3 harg3 arg4 harg4 arg5 harg5 arg6 harg6 arg7 harg7 arg8 harg8 hc0 x0 x1 x2 x3 xs0 = spkBlock x0 x1 x2 xs0 := by
  unfold out0_B_5
  funext y
  rw [View.read_writes_eq_canon _ _ _ (cover0_B_5 c i arg2 harg2 arg3 harg3 arg4 harg4 arg5 harg5 arg6 harg6 arg7 harg7 arg8 harg8 hc0 x0 x1 x2 x3 xs0)]
  exact View.canon_apply_of_pieces _ _ (stores_B c i arg2 harg2 arg3 harg3 arg4 harg4 arg5 harg5 arg6 harg6 arg7 harg7 arg8 harg8 hc0 x0 x1 x2 x3 xs0).2.1.mem y (cover0_B_5 c i arg2 harg2 arg3 harg3 arg4 harg4 arg5 harg5 arg6 harg6 arg7 harg7 arg8 harg8 hc0 x0 x1 x2 x3 xs0 y)

/-- What a later point of a batch group, which starts from the membrane carried to it leaves in the carried membrane. -/
theorem sout_B (c : Dev nD) (i : grid0.Coords) (arg2 : Memref sig .tc .vmem S8x128x1024 .f32) (harg2 : arg2.IsWhole)
    (arg3 : Memref sig .tc .vmem S8x128x1024 .f32) (harg3 : arg3.IsWhole) (arg4 : Memref sig .tc .vmem S1x1024 .f32) (harg4 : arg4.IsWhole)
    (arg5 : Memref sig .tc .vmem S1x8x1024 .f32) (harg5 : arg5.IsWhole) (arg6 : Memref sig .tc .vmem S8x128x1024 .f32) (harg6 : arg6.IsWhole)
    (arg7 : Memref sig .tc .vmem S8x128x1024 .f32) (harg7 : arg7.IsWhole) (arg8 : Memref sig .tc .vmem S8x1024 .f32) (harg8 : arg8.IsWhole) (hc0 : ¬cond0_0 i)
    (x0 x1 : Vec F S8x128x1024 .f32) (x2 : Vec F S1x1024 .f32) (x3 : Vec F S1x8x1024 .f32) (xs0 : Vec F S8x1024 .f32) :
    sout0_B_0 c i arg2 harg2 arg3 harg3 arg4 harg4 arg5 harg5 arg6 harg6 arg7 harg7 arg8 harg8 hc0 x0 x1 x2 x3 xs0 = state x0 x1 x2 xs0 128 := by
  unfold sout0_B_0
  rw [View.read_writes_eq_canon _ _ _ (scover0_B_0 c i arg2 harg2 arg3 harg3 arg4 harg4 arg5 harg5 arg6 harg6 arg7 harg7 arg8 harg8 hc0 x0 x1 x2 x3 xs0)]
  exact (stores_B c i arg2 harg2 arg3 harg3 arg4 harg4 arg5 harg5 arg6 harg6 arg7 harg7 arg8 harg8 hc0 x0 x1 x2 x3 xs0).2.2

end Cert.Proof.Block
-- ==== Proof.KernelValue.lean ====
module

public import proofs.«01_k».proof.Proof.Spec
public import proofs.«01_k».proof.Proof.CaseA
public import proofs.«01_k».proof.Proof.CaseB
public import Idealize.ShloMosaic.Lib.Pipeline.Value
public import Idealize.ShloMosaic.Lib.StableHlo.RunRead

/-! What the kernel leaves in its two results. Point `16 p + q` of the grid works on the batch rows `8 p … 8 p + 7` and the
    times `128 q … 128 q + 127`; the membrane it starts from is the initial one at `q = 0` and what the point before it
    left otherwise. -/

@[expose] public section

noncomputable section

namespace Cert.Proof.Lif

open Idealize.ShloMosaic Idealize.ShloMosaic.TcCoe Idealize.ShloMosaic.ValueIdx Idealize.SL.Sem
open Cert.KernelIdeal Cert.KernelIdeal.Gen Cert.KernelIdeal.Value Cert.Proof.Block

/-! ## One point, element by element -/

section Point

variable (x0 x1 : Vec Ideal S8x128x1024 .f32) (x2 : Vec Ideal S1x1024 .f32) (h : FVec Ideal S8x1024 .f32)

/-- A row of a block as a series in the row number. -/
def rows (x : Vec Ideal S8x128x1024 .f32) (b : Fin 8) (d : Fin 1024) : ℕ → EReal := fun t => x (ix3 b (Fin.ofNat 128 t) d)

/-- The threshold laid over the batch rows. -/
theorem threshold_apply (b : Fin 8) (d : Fin 1024) :
    broadcastTo S8x1024 x2 Cert.KernelIdeal.Gen.broadcasts_S1x1024_S8x1024 (ix2 b d) = x2 (ix2 0 d) :=
  broadcastTo_apply _ _ _ _ fun a => by fin_cases a <;> rfl

/-- Each element of the state runs the recurrence on its own. -/
theorem state_apply (b : Fin 8) (d : Fin 1024) :
    ∀ n, state x0 x1 x2 h n (ix2 b d) = mem (rows x0 b d) (rows x1 b d) (x2 (ix2 0 d)) (h (ix2 b d)) n
  | 0 => rfl
  | n + 1 => by
    have e : state x0 x1 x2 h (n + 1) (ix2 b d) =
        Scalar.select (FloatOps.cmpf (F := Ideal) (φ := .f32) .ogt (pre (rows x0 b d n) (rows x1 b d n) (state x0 x1 x2 h n (ix2 b d)))
          (broadcastTo S8x1024 x2 Cert.KernelIdeal.Gen.broadcasts_S1x1024_S8x1024 (ix2 b d)))
          (FloatOps.ofBits .f32 0x00000000#32 : Ideal .f32) (pre (rows x0 b d n) (rows x1 b d n) (state x0 x1 x2 h n (ix2 b d))) := rfl
    rw [e, select_ogt, threshold_apply, lit_zero, state_apply b d n]
    rfl

/-- Each element of the spikes is the spike of its own recurrence. -/
theorem spikes_apply (b : Fin 8) (d : Fin 1024) (n : ℕ) :
    spikes x0 x1 x2 h n (ix2 b d) = spk (rows x0 b d) (rows x1 b d) (x2 (ix2 0 d)) (h (ix2 b d)) n := by
  have e : spikes x0 x1 x2 h n (ix2 b d) =
      Scalar.select (FloatOps.cmpf (F := Ideal) (φ := .f32) .ogt (pre (rows x0 b d n) (rows x1 b d n) (state x0 x1 x2 h n (ix2 b d)))
        (broadcastTo S8x1024 x2 Cert.KernelIdeal.Gen.broadcasts_S1x1024_S8x1024 (ix2 b d)))
        (FloatOps.ofBits .f32 0x3F800000#32 : Ideal .f32) (FloatOps.ofBits .f32 0x00000000#32 : Ideal .f32) := rfl
  rw [e, select_ogt, threshold_apply, lit_zero, lit_one, state_apply]
  rfl

end Point

variable (m : (ℓ : Loc nD τ sig) → Buf (Elt Ideal) ℓ) (ρ : Dev nD → PrngReg)

/-! ## What a point reads -/

/-- The batch row of the arguments that row `b` of point `t`'s blocks is. -/
def bat (t : Fin cfg0.N) (b : Fin 8) : Fin 16 := ⟨8 * (t.val / 16) + b.val, by have := t.isLt; have : cfg0.N = 32 := N_0; omega⟩

/-- The blocks each point reads, decided over the grid. -/
theorem block_index : ∀ t : Fin cfg0.N,
    win0_0.index t = ![t.val / 16, t.val % 16, 0] ∧ win0_1.index t = ![t.val / 16, t.val % 16, 0]
      ∧ win0_2.index t = ![0, 0] ∧ win0_3.index t = ![t.val / 16, 0, 0] :=
  (by decide +kernel : ∀ t : Fin grid0.N, _)

/-- The decays a point reads. -/
theorem decay_block (c : Dev nD) (t : Fin cfg0.N) (b : Fin 8) (d : Fin 1024) (i : ℕ) (hi : i < 128) :
    rows (iblk m c 0 t) b d i = series (m ((c.tc : Thread nD τ).loc main_arg0)) (bat t b) d (128 * (t.val % 16) + i) := by
  have e := (block_index t).1
  have e0 : win0_0.index t 0 = t.val / 16 := congrFun e 0
  have e1 : win0_0.index t 1 = t.val % 16 := congrFun e 1
  have e2 : win0_0.index t 2 = 0 := congrFun e 2
  unfold rows series iblk
  rw [View.read_apply]
  show V m c main_arg0 _ = _
  rw [V_main_arg0]
  refine congrArg (m ((c : Thread nD τ).loc main_arg0)) (funext fun a => Fin.ext ?_)
  fin_cases a
  · show win0_0.index t 0 * 8 + 1 * b.val = 8 * (t.val / 16) + b.val
    omega
  · show win0_0.index t 1 * 128 + 1 * (i % 128) = (128 * (t.val % 16) + i) % 2048
    omega
  · show win0_0.index t 2 * 1024 + 1 * d.val = d.val
    omega

/-- The inputs a point reads. -/
theorem input_block (c : Dev nD) (t : Fin cfg0.N) (b : Fin 8) (d : Fin 1024) (i : ℕ) (hi : i < 128) :
    rows (iblk m c 1 t) b d i = series (m ((c.tc : Thread nD τ).loc main_arg1)) (bat t b) d (128 * (t.val % 16) + i) := by
  have e := (block_index t).2.1
  have e0 : win0_1.index t 0 = t.val / 16 := congrFun e 0
  have e1 : win0_1.index t 1 = t.val % 16 := congrFun e 1
  have e2 : win0_1.index t 2 = 0 := congrFun e 2
  unfold rows series iblk
  rw [View.read_apply]
  show V m c main_arg1 _ = _
  rw [V_main_arg1]
  refine congrArg (m ((c : Thread nD τ).loc main_arg1)) (funext fun a => Fin.ext ?_)
  fin_cases a
  · show win0_1.index t 0 * 8 + 1 * b.val = 8 * (t.val / 16) + b.val
    omega
  · show win0_1.index t 1 * 128 + 1 * (i % 128) = (128 * (t.val % 16) + i) % 2048
    omega
  · show win0_1.index t 2 * 1024 + 1 * d.val = d.val
    omega

/-- The threshold as the kernel holds it: one row. -/
theorem threshold_buffer (c : Dev nD) :
    V m c main_v0 = shapeCast S1x1024 (m ((c : Thread nD τ).loc main_arg2)) shapeCasts_S1024_S1x1024 := by
  unfold V
  after_reads_simp
  rfl

/-- The initial membrane as the kernel holds it: two groups of eight rows. -/
theorem start_buffer (c : Dev nD) :
    V m c main_v1 = shapeCast S2x8x1024 (m ((c : Thread nD τ).loc main_arg3)) shapeCasts_S16x1024_S2x8x1024 := by
  unfold V
  after_reads_simp
  rfl

/-- The threshold a point reads. -/
theorem threshold_block (c : Dev nD) (t : Fin cfg0.N) (d : Fin 1024) :
    iblk m c 2 t (ix2 0 d) = m ((c.tc : Thread nD τ).loc main_arg2) (ix1 d) := by
  have e := (block_index t).2.2.1
  have e0 : win0_2.index t 0 = 0 := congrFun e 0
  have e1 : win0_2.index t 1 = 0 := congrFun e 1
  unfold iblk
  rw [View.read_apply]
  show V m c main_v0 _ = _
  rw [threshold_buffer]
  refine shapeCast_apply _ _ _ _ ?_
  refine (Shape.rowMajor_val_one (d := ![1024]) _).trans (Eq.trans ?_ (Shape.rowMajor_val_two (d := ![1, 1024]) _).symm)
  show d.val = (win0_2.index t 0 * 1 + 1 * 0) * 1024 + (win0_2.index t 1 * 1024 + 1 * d.val)
  omega

/-- The membrane the first point of a batch group reads. -/
theorem start_block (c : Dev nD) (t : Fin cfg0.N) (b : Fin 8) (d : Fin 1024) :
    start (iblk m c 3 t) (ix2 b d) = m ((c.tc : Thread nD τ).loc main_arg3) (ix2 (bat t b) d) := by
  have e := (block_index t).2.2.2
  have e0 : win0_3.index t 0 = t.val / 16 := congrFun e 0
  have e1 : win0_3.index t 1 = 0 := congrFun e 1
  have e2 : win0_3.index t 2 = 0 := congrFun e 2
  unfold start iblk
  rw [View.read_apply]
  show V m c main_v1 _ = _
  rw [start_buffer]
  refine shapeCast_apply _ _ _ _ ?_
  refine (Shape.rowMajor_val_two (d := ![16, 1024]) _).trans (Eq.trans ?_ (Shape.rowMajor_val_three (d := ![2, 8, 1024]) _).symm)
  show (8 * (t.val / 16) + b.val) * 1024 + d.val =
    ((win0_3.index t 0 * 1 + 1 * 0) * 8 + (win0_3.index t 1 * 8 + 1 * b.val)) * 1024 + (win0_3.index t 2 * 1024 + 1 * d.val)
  omega

/-! ## Point by point -/

/-- The membrane that point `t` starts from, on row `b` of its blocks and channel `d`. -/
def carried (c : Dev nD) (t : Fin cfg0.N) (b : Fin 8) (d : Fin 1024) : EReal :=
  memAt (m ((c.tc : Thread nD τ).loc main_arg0)) (m ((c.tc : Thread nD τ).loc main_arg1)) (m ((c.tc : Thread nD τ).loc main_arg2))
    (m ((c.tc : Thread nD τ).loc main_arg3)) (bat t b) d (128 * (t.val % 16))

/-- From the right membrane, a point's state before its row `n` is the membrane that step `128 q + n` finds. -/
theorem point_state (c : Dev nD) (t : Fin cfg0.N) (h : FVec Ideal S8x1024 .f32) (b : Fin 8) (d : Fin 1024)
    (hh : h (ix2 b d) = carried m c t b d) (n : ℕ) (hn : n ≤ 128) :
    state (iblk m c 0 t) (iblk m c 1 t) (iblk m c 2 t) h n (ix2 b d) =
      memAt (m ((c.tc : Thread nD τ).loc main_arg0)) (m ((c.tc : Thread nD τ).loc main_arg1)) (m ((c.tc : Thread nD τ).loc main_arg2))
        (m ((c.tc : Thread nD τ).loc main_arg3)) (bat t b) d (128 * (t.val % 16) + n) := by
  refine (state_apply _ _ _ _ b d n).trans ?_
  rw [threshold_block, hh]
  unfold carried memAt
  rw [mem_add]
  exact mem_congr _ _ n (fun i hi => decay_block m c t b d i (by omega)) (fun i hi => input_block m c t b d i (by omega))

/-- From the right membrane, a point's spikes of its row `n` are those of step `128 q + n`. -/
theorem point_spikes (c : Dev nD) (t : Fin cfg0.N) (h : FVec Ideal S8x1024 .f32) (b : Fin 8) (d : Fin 1024)
    (hh : h (ix2 b d) = carried m c t b d) (n : ℕ) (hn : n < 128) :
    spikes (iblk m c 0 t) (iblk m c 1 t) (iblk m c 2 t) h n (ix2 b d) =
      spkAt (m ((c.tc : Thread nD τ).loc main_arg0)) (m ((c.tc : Thread nD τ).loc main_arg1)) (m ((c.tc : Thread nD τ).loc main_arg2))
        (m ((c.tc : Thread nD τ).loc main_arg3)) (bat t b) d (128 * (t.val % 16) + n) := by
  refine (spikes_apply _ _ _ _ b d n).trans ?_
  rw [threshold_block, hh]
  unfold carried memAt spkAt
  rw [spk_add]
  exact spk_congr _ _ n (fun i hi => decay_block m c t b d i (by omega)) (fun i hi => input_block m c t b d i (by omega))

/-- What a point leaves when it starts from `h`: the two blocks, and the state after its last row. -/
def Leaves (c : Dev nD) (t : Fin cfg0.N) (h : FVec Ideal S8x1024 .f32) : Prop :=
  (outsAt0 m c t.val t.isLt).1 = memBlock (iblk m c 0 t) (iblk m c 1 t) (iblk m c 2 t) h
    ∧ (outsAt0 m c t.val t.isLt).2.1 = spkBlock (iblk m c 0 t) (iblk m c 1 t) (iblk m c 2 t) h
    ∧ (outsAt0 m c t.val t.isLt).2.2 = state (iblk m c 0 t) (iblk m c 1 t) (iblk m c 2 t) h 128

/-- The first point of a batch group starts from the initial membrane. -/
theorem leaves_first (c : Dev nD) (t : Fin cfg0.N) (h0 : t.val % 16 = 0) : Leaves m c t (start (iblk m c 3 t)) := by
  unfold Leaves
  rw [outsAt0_A m c t h0]
  refine ⟨?_, ?_, ?_⟩
  · dsimp only
    rw [out_A_4]
  · dsimp only
    rw [out_A_5]
  · dsimp only
    rw [sout_A]

/-- Every other point starts from what the point before it left. -/
theorem leaves_next (c : Dev nD) (t : Fin cfg0.N) (h0 : ¬t.val % 16 = 0) :
    Leaves m c t (outsAt0 m c (t.val - 1) (Nat.lt_of_le_of_lt (Nat.sub_le _ _) t.isLt)).2.2 := by
  unfold Leaves
  rw [outsAt0_B m c t h0]
  refine ⟨?_, ?_, ?_⟩
  · dsimp only
    rw [out_B_4]
  · dsimp only
    rw [out_B_5]
  · dsimp only
    rw [sout_B]

/-- Every point starts from the membrane that its first step finds. -/
theorem leaves (c : Dev nD) : ∀ (n : ℕ) (hn : n < cfg0.N),
    ∃ h : FVec Ideal S8x1024 .f32, (∀ b d, h (ix2 b d) = carried m c ⟨n, hn⟩ b d) ∧ Leaves m c ⟨n, hn⟩ h := by
  have first (t : Fin cfg0.N) (h0 : t.val % 16 = 0) :
      ∃ h : FVec Ideal S8x1024 .f32, (∀ b d, h (ix2 b d) = carried m c t b d) ∧ Leaves m c t h :=
    ⟨_, fun b d => (start_block m c t b d).trans (by unfold carried; rw [h0]; rfl), leaves_first m c t h0⟩
  intro n
  induction n with
  | zero => exact fun hn => first ⟨0, hn⟩ rfl
  | succ n ih =>
    intro hn
    by_cases h0 : (n + 1) % 16 = 0
    · exact first ⟨n + 1, hn⟩ h0
    · obtain ⟨h, hh, -, -, hl⟩ := ih (Nat.lt_of_succ_lt hn)
      refine ⟨_, fun b d => ?_, leaves_next m c ⟨n + 1, hn⟩ h0⟩
      refine (congrFun hl (ix2 b d)).trans ((point_state m c ⟨n, Nat.lt_of_succ_lt hn⟩ h b d (hh b d) 128 le_rfl).trans ?_)
      have eb : bat ⟨n, Nat.lt_of_succ_lt hn⟩ b = bat ⟨n + 1, hn⟩ b := Fin.ext (by show 8 * (n / 16) + b.val = 8 * ((n + 1) / 16) + b.val; omega)
      have en : 128 * (n % 16) + 128 = 128 * ((n + 1) % 16) := by omega
      show memAt _ _ _ _ _ d (128 * (n % 16) + 128) = memAt _ _ _ _ _ d (128 * ((n + 1) % 16))
      rw [eb, en]

/-! ## The two results -/

/-- The first result is every membrane after its step. -/
theorem kernel_membranes (c : Dev nD) :
    G4 m c = memOut (m ((c.tc : Thread nD τ).loc main_arg0)) (m ((c.tc : Thread nD τ).loc main_arg1))
      (m ((c.tc : Thread nD τ).loc main_arg2)) (m ((c.tc : Thread nD τ).loc main_arg3)) := by
  funext i
  have hi0 : (i 0).val < 16 := (i 0).isLt
  have hi1 : (i 1).val < 2048 := (i 1).isLt
  have hi2 : (i 2).val < 1024 := (i 2).isLt
  have hN : cfg0.N = 32 := N_0
  have hp : pt4Of i < cfg0.N := by show 16 * ((i 0).val / 8 - 0) + 1 * ((i 1).val / 128 - 0) + 1 * ((i 2).val / 1024 - 0) < _; omega
  obtain ⟨h, hh, hl, -, -⟩ := leaves m c (pt4Of i) hp
  unfold G4
  rw [dif_pos hp, ← outsAt0_sweep m c (pt4Of i) hp]
  refine (congrFun hl (loc4Of i)).trans ?_
  refine (point_state m c ⟨pt4Of i, hp⟩ h _ _ (hh _ _) ((i 1).val % 128 + 1) (by omega)).trans ?_
  have eb : bat ⟨pt4Of i, hp⟩ (loc4Of i 0) = i 0 :=
    Fin.ext (by show 8 * ((16 * ((i 0).val / 8 - 0) + 1 * ((i 1).val / 128 - 0) + 1 * ((i 2).val / 1024 - 0)) / 16) + (i 0).val % 8 = (i 0).val; omega)
  have ed : loc4Of i 2 = i 2 := Fin.ext (Nat.mod_eq_of_lt hi2)
  have en : 128 * ((16 * ((i 0).val / 8 - 0) + 1 * ((i 1).val / 128 - 0) + 1 * ((i 2).val / 1024 - 0)) % 16) + ((i 1).val % 128 + 1) = (i 1).val + 1 := by omega
  show memAt _ _ _ _ (bat ⟨pt4Of i, hp⟩ (loc4Of i 0)) (loc4Of i 2)
    (128 * ((16 * ((i 0).val / 8 - 0) + 1 * ((i 1).val / 128 - 0) + 1 * ((i 2).val / 1024 - 0)) % 16) + ((i 1).val % 128 + 1)) = memAt _ _ _ _ (i 0) (i 2) ((i 1).val + 1)
  rw [eb, ed, en]

/-- The second result is every spike. -/
theorem kernel_spikes (c : Dev nD) :
    G5 m c = spkOut (m ((c.tc : Thread nD τ).loc main_arg0)) (m ((c.tc : Thread nD τ).loc main_arg1))
      (m ((c.tc : Thread nD τ).loc main_arg2)) (m ((c.tc : Thread nD τ).loc main_arg3)) := by
  funext i
  have hi0 : (i 0).val < 16 := (i 0).isLt
  have hi1 : (i 1).val < 2048 := (i 1).isLt
  have hi2 : (i 2).val < 1024 := (i 2).isLt
  have hN : cfg0.N = 32 := N_0
  have hp : pt5Of i < cfg0.N := by show 16 * ((i 0).val / 8 - 0) + 1 * ((i 1).val / 128 - 0) + 1 * ((i 2).val / 1024 - 0) < _; omega
  obtain ⟨h, hh, -, hl, -⟩ := leaves m c (pt5Of i) hp
  unfold G5
  rw [dif_pos hp, ← outsAt0_sweep m c (pt5Of i) hp]
  refine (congrFun hl (loc5Of i)).trans ?_
  refine (point_spikes m c ⟨pt5Of i, hp⟩ h _ _ (hh _ _) ((i 1).val % 128) (by omega)).trans ?_
  have eb : bat ⟨pt5Of i, hp⟩ (loc5Of i 0) = i 0 :=
    Fin.ext (by show 8 * ((16 * ((i 0).val / 8 - 0) + 1 * ((i 1).val / 128 - 0) + 1 * ((i 2).val / 1024 - 0)) / 16) + (i 0).val % 8 = (i 0).val; omega)
  have ed : loc5Of i 2 = i 2 := Fin.ext (Nat.mod_eq_of_lt hi2)
  have en : 128 * ((16 * ((i 0).val / 8 - 0) + 1 * ((i 1).val / 128 - 0) + 1 * ((i 2).val / 1024 - 0)) % 16) + (i 1).val % 128 = (i 1).val := by omega
  show spkAt _ _ _ _ (bat ⟨pt5Of i, hp⟩ (loc5Of i 0)) (loc5Of i 2)
    (128 * ((16 * ((i 0).val / 8 - 0) + 1 * ((i 1).val / 128 - 0) + 1 * ((i 2).val / 1024 - 0)) % 16) + (i 1).val % 128) = spkAt _ _ _ _ (i 0) (i 2) (i 1).val
  rw [eb, ed, en]

/-- The kernel leaves the membranes and the spikes of the recurrence in its results, and its arguments as they were. -/
theorem kernel_run : θ_run (defs (F := Ideal)) (onTc (τ := τ) (main (F := Ideal))) ⟨m, fun _ => 0, ρ⟩ fun r => ∀ c : Dev nD,
      r.2.mem ((c.tc : Thread nD τ).loc main_v2_0) = memOut (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v2_1) = spkOut (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (kernel_membranes m c), (h c).2.1.trans (kernel_spikes m c), (h c).2.2⟩)
    (Cert.KernelIdeal.Value.run (F := Ideal) m ρ)

end Cert.Proof.Lif

end
-- ==== Proof.RefValue.lean ====
module

public import proofs.«01_k».proof.Proof.Spec
public import proofs.«01_k».proof.Proof.Gen.ReferenceIdeal.Run
public import Idealize.ShloMosaic.Lib.WordCmp
public import Idealize.ShloMosaic.Lib.Pipeline.Value

/-! What the reference leaves in its two results. Its loop runs 2048 trips; before trip `n` the carried buffers hold the
    membrane step `n` finds and the first `n` rows of both results. -/

@[expose] public section

noncomputable section

namespace Cert.Proof.Ref

open Idealize.ShloMosaic Idealize.ShloMosaic.TcCoe Idealize.ShloMosaic.ValueIdx Idealize.ShloMosaic.StableHlo
open Idealize.SL.Sem Idealize.ShloMosaic.WordCmp
open Cert.ReferenceIdeal Cert.ReferenceIdeal.Gen Cert.ReferenceIdeal.Value Cert.Proof.Lif

/-- The start of trip `n`'s slice: row `n`, column and channel zero. -/
theorem start_eq (n : ℕ) (hn : n < 2048) (ctr z : S_.Idx → BitVec 32) (hc : ctr (Shape.Idx.first h_S_) = BitVec.ofNat 32 n)
    (hz : z (Shape.Idx.first h_S_) = 0#32) (a : Fin 3) :
    ((![ctr, z, z] : Fin 3 → S_.Idx → BitVec 32) a (Shape.Idx.first h_S_)).toInt = ((![n, 0, 0] : Fin 3 → ℕ) a : ℤ) := by
  fin_cases a
  · show (ctr (Shape.Idx.first h_S_)).toInt = (n : ℤ)
    rw [hc]
    exact toInt_ofNat_of_lt (by omega)
  · show (z (Shape.Idx.first h_S_)).toInt = ((0 : ℕ) : ℤ)
    rw [hz]; rfl
  · show (z (Shape.Idx.first h_S_)).toInt = ((0 : ℕ) : ℤ)
    rw [hz]; rfl

/-- The slice of trip `n`, flattened, is row `n`. -/
theorem row_read (n : ℕ) (hn : n < 2048) (x : S2048x16x1024.Idx → EReal) (ctr z : S_.Idx → BitVec 32)
    (hc : ctr (Shape.Idx.first h_S_) = BitVec.ofNat 32 n) (hz : z (Shape.Idx.first h_S_) = 0#32) (hs : S1x16x1024.ShapeCasts S16x1024)
    (h : S2048x16x1024.Slices (fun _ => 0) S1x16x1024) (b : Fin 16) (d : Fin 1024) :
    shapeCast S16x1024 (Host.dynamicSlice S1x16x1024 x
      (fun k => ((![ctr, z, z] : Fin 3 → S_.Idx → BitVec 32) k (Shape.Idx.first h_S_)).toInt) h) hs (ix2 b d) = x (ix3 ⟨n, hn⟩ b d) := by
  have hk : S2048x16x1024.Slices ![n, 0, 0] S1x16x1024 := ⟨rfl, by
    intro a
    fin_cases a
    · show n + 1 ≤ 2048; omega
    · show 0 + 16 ≤ 16; omega
    · show 0 + 1024 ≤ 1024; omega⟩
  rw [dynamicSlice_eq_extract S1x16x1024 x _ h ![n, 0, 0] hk (start_eq n hn ctr z hc hz),
    shapeCast_apply _ hs (ix2 b d) (ix3 0 b d) (by
      rw [Shape.rowMajor_val_three, Shape.rowMajor_val_two]; simp [S1x16x1024, S16x1024])]
  unfold extractStridedSlice
  refine congrArg x (funext fun a => Fin.ext ?_)
  fin_cases a
  · show n + 0 = n; omega
  · show 0 + b.val = b.val; omega
  · show 0 + d.val = d.val; omega

/-- The update of trip `n` replaces row `n` and keeps the others. -/
theorem row_write (n : ℕ) (hn : n < 2048) (x : S2048x16x1024.Idx → EReal) (v : S16x1024.Idx → EReal) (ctr z : S_.Idx → BitVec 32)
    (hc : ctr (Shape.Idx.first h_S_) = BitVec.ofNat 32 n) (hz : z (Shape.Idx.first h_S_) = 0#32)
    (hb : S16x1024.BroadcastsInDim S1x16x1024 ![1, 2]) (h : S2048x16x1024.Slices (fun _ => 0) S1x16x1024)
    (t : Fin 2048) (b : Fin 16) (d : Fin 1024) :
    Host.dynamicUpdateSlice x (broadcastInDim S1x16x1024 ![1, 2] hb v)
      (fun k => ((![ctr, z, z] : Fin 3 → S_.Idx → BitVec 32) k (Shape.Idx.first h_S_)).toInt) h (ix3 t b d) =
      if t.val = n then v (ix2 b d) else x (ix3 t b d) := by
  have hk : S2048x16x1024.Slices ![n, 0, 0] S1x16x1024 := ⟨rfl, by
    intro a
    fin_cases a
    · show n + 1 ≤ 2048; omega
    · show 0 + 16 ≤ 16; omega
    · show 0 + 1024 ≤ 1024; omega⟩
  rw [dynamicUpdateSlice_eq_update x _ _ h ![n, 0, 0] hk (start_eq n hn ctr z hc hz)]
  unfold updateSlice
  by_cases e : t.val = n
  · rw [if_pos e, dif_pos (by
      intro a
      have := t.isLt; have := b.isLt; have := d.isLt
      fin_cases a
      · show n ≤ t.val ∧ t.val < n + 1; omega
      · show 0 ≤ b.val ∧ b.val < 0 + 16; omega
      · show 0 ≤ d.val ∧ d.val < 0 + 1024; omega)]
    refine broadcastInDim_apply _ hb v _ (ix2 b d) fun a => ?_
    fin_cases a
    · rfl
    · rfl
  · rw [if_neg e, dif_neg (fun hin => e (by
      have h0 := hin 0
      have h1 : n ≤ t.val ∧ t.val < n + 1 := h0
      omega))]

/-- The threshold spread over the rows, read at a channel. -/
theorem threshold_row (Θ : S1024.Idx → EReal) (h1 : S1024.BroadcastsInDim S1x1024 ![1]) (h2 : S1x1024.BroadcastsInDim S16x1024 ![0, 1])
    (b : Fin 16) (d : Fin 1024) :
    broadcastInDim S16x1024 ![0, 1] h2 (broadcastInDim S1x1024 ![1] h1 Θ) (ix2 b d) = Θ (ix1 d) := by
  refine (broadcastInDim_apply _ h2 _ _ (ix2 0 d) fun a => ?_).trans (broadcastInDim_apply _ h1 Θ _ (ix1 d) fun a => ?_)
  · fin_cases a <;> rfl
  · fin_cases a
    rfl

/-- What the carried buffers hold before trip `n`: the transposed decays and inputs, the threshold, the counter, the membrane
    step `n` finds, and the first `n` rows of both results. -/
structure At (A B : S16x2048x1024.Idx → EReal) (Θ : S1024.Idx → EReal) (H : S16x1024.Idx → EReal) (n : ℕ)
    (V : Valuation τ sig (Elt Ideal)) : Prop where
  decays : ∀ (t : Fin 2048) (b : Fin 16) (d : Fin 1024),
    (V (Proc.devRef .tc main_v4_0) : S2048x16x1024.Idx → EReal) (ix3 t b d) = A (ix3 b t d)
  inputs : ∀ (t : Fin 2048) (b : Fin 16) (d : Fin 1024),
    (V (Proc.devRef .tc main_v4_1) : S2048x16x1024.Idx → EReal) (ix3 t b d) = B (ix3 b t d)
  threshold : V (Proc.devRef .tc main_v4_2) = Θ
  counter : V (Proc.devRef .tc main_v4_3) = fun _ => BitVec.ofNat 32 n
  membrane : ∀ (b : Fin 16) (d : Fin 1024),
    (V (Proc.devRef .tc main_v4_4) : S16x1024.Idx → EReal) (ix2 b d) = memAt A B Θ H b d n
  membranes : ∀ (t : Fin 2048) (b : Fin 16) (d : Fin 1024), t.val < n →
    (V (Proc.devRef .tc main_v4_5) : S2048x16x1024.Idx → EReal) (ix3 t b d) = memAt A B Θ H b d (t.val + 1)
  spikes : ∀ (t : Fin 2048) (b : Fin 16) (d : Fin 1024), t.val < n →
    (V (Proc.devRef .tc main_v4_6) : S2048x16x1024.Idx → EReal) (ix3 t b d) = spkAt A B Θ H b d t.val

section Trip

variable {A B : S16x2048x1024.Idx → EReal} {Θ : S1024.Idx → EReal} {H : S16x1024.Idx → EReal} {n : ℕ}
  {V : Valuation τ sig (Elt Ideal)}

/-- The membrane of trip `n` before its threshold test. -/
theorem At.raw (h : At A B Θ H n V) (hn : n < 2048) (b : Fin 16) (d : Fin 1024) :
    (res_main_while0b_v10 V : S16x1024.Idx → EReal) (ix2 b d) = pre (series A b d n) (series B b d n) (memAt A B Θ H b d n) := by
  have hc : (V (Proc.devRef .tc main_v4_3) : S_.Idx → BitVec 32) (Shape.Idx.first h_S_) = BitVec.ofNat 32 n := congrFun h.counter _
  have ha := series_val A b d ⟨n, hn⟩
  have hb := series_val B b d ⟨n, hn⟩
  unfold res_main_while0b_v10
  show (_ : EReal) * _ + _ = _
  erw [row_read n hn _ _ (constantI S_ 32 0#32) hc rfl, row_read n hn _ _ (constantI S_ 32 0#32) hc rfl]
  rw [h.decays, h.inputs, h.membrane, ← ha, ← hb]
  rfl

/-- The spikes of trip `n`. -/
theorem At.fired (h : At A B Θ H n V) (hn : n < 2048) (b : Fin 16) (d : Fin 1024) :
    (res_main_while0b_v16 V : S16x1024.Idx → EReal) (ix2 b d) = spkAt A B Θ H b d n := by
  have hθ := threshold_row (V (Proc.devRef .tc main_v4_2)) bcast_S1024_S1x1024_1 bcast_S1x1024_S16x1024_0_1 b d
  have hp := h.raw hn b d
  have ht : (V (Proc.devRef .tc main_v4_2) : S1024.Idx → EReal) (ix1 d) = Θ (ix1 d) := congrFun h.threshold _
  unfold res_main_while0b_v16
  show (FloatOps.uitofp .f32 (FloatOps.cmpf (F := Ideal) (φ := .f32) .ogt ((_ : EReal) - _) (Ideal.ofBits .f32 0x00000000#32)) : Ideal .f32) = _
  rw [hp, hθ, ht, show Ideal.ofBits .f32 0x00000000#32 = (0 : EReal) from lit_zero]
  exact ref_fire _ _

/-- The membrane trip `n` leaves. -/
theorem At.next (h : At A B Θ H n V) (hn : n < 2048) (b : Fin 16) (d : Fin 1024) :
    (res_main_while0b_v19 V : S16x1024.Idx → EReal) (ix2 b d) = memAt A B Θ H b d (n + 1) := by
  have hp := h.raw hn b d
  have hs := h.fired hn b d
  unfold res_main_while0b_v19
  show (_ : EReal) * (Ideal.ofBits .f32 0x3F800000#32 - _) = _
  rw [hp, hs, show Ideal.ofBits .f32 0x3F800000#32 = (1 : EReal) from lit_one]
  exact ref_reset _ _

/-- One trip. -/
theorem At.step (h : At A B Θ H n V) (hn : n < 2048) : At A B Θ H (n + 1) (STEP V) where
  decays t b d := by rw [STEP_main_v4_0]; exact h.decays t b d
  inputs t b d := by rw [STEP_main_v4_1]; exact h.inputs t b d
  threshold := by rw [STEP_main_v4_2]; exact h.threshold
  counter := by
    rw [STEP_main_v4_3]
    unfold step_main_v4_3
    rw [h.counter]
    funext _
    show BitVec.ofNat 32 n + 1#32 = _
    rw [← BitVec.ofNat_add]
  membrane b d := by
    rw [STEP_main_v4_4]
    exact h.next hn b d
  membranes t b d ht := by
    have hc : (V (Proc.devRef .tc main_v4_3) : S_.Idx → BitVec 32) (Shape.Idx.first h_S_) = BitVec.ofNat 32 n := congrFun h.counter _
    rw [STEP_main_v4_5]
    unfold step_main_v4_5
    refine (row_write n hn _ (res_main_while0b_v19 V) _ (constantI S_ 32 0#32) hc rfl _ _ t b d).trans ?_
    by_cases e : t.val = n
    · rw [if_pos e, h.next hn b d, e]
    · rw [if_neg e]
      exact h.membranes t b d (by omega)
  spikes t b d ht := by
    have hc : (V (Proc.devRef .tc main_v4_3) : S_.Idx → BitVec 32) (Shape.Idx.first h_S_) = BitVec.ofNat 32 n := congrFun h.counter _
    rw [STEP_main_v4_6]
    unfold step_main_v4_6
    refine (row_write n hn _ (res_main_while0b_v16 V) _ (constantI S_ 32 0#32) hc rfl _ _ t b d).trans ?_
    by_cases e : t.val = n
    · rw [if_pos e, h.fired hn b d, e]
    · rw [if_neg e]
      exact h.spikes t b d (by omega)

/-- Any number of trips up to 2048. -/
theorem At.iterate (h : At A B Θ H 0 V) : ∀ n, n ≤ 2048 → At A B Θ H n (STEP^[n] V)
  | 0, _ => h
  | n + 1, hn => by
    rw [Function.iterate_succ_apply']
    exact (h.iterate n (by omega)).step (by omega)

end Trip

variable (m : (ℓ : Loc nD τ sig) → Buf (Elt Ideal) ℓ) (ρ : Dev nD → PrngReg)

set_option maxRecDepth 65536 in
set_option maxHeartbeats 2000000 in
/-- What the loop finds: transposed arguments, counter zero, the initial membrane. -/
theorem entry (c : Dev nD) :
    At (m ((c.tc : Thread nD τ).loc main_arg0)) (m ((c.tc : Thread nD τ).loc main_arg1)) (m ((c.tc : Thread nD τ).loc main_arg2))
      (m ((c.tc : Thread nD τ).loc main_arg3)) 0 (entryContents preI m c) where
  decays t b d := by
    simp only [entryContents, afterL_cons, afterL_nil]
    after_reads_simp
    refine transpose_apply _ _ _ _ (ix3 b t d) fun k => ?_
    fin_cases k <;> rfl
  inputs t b d := by
    simp only [entryContents, afterL_cons, afterL_nil]
    after_reads_simp
    refine transpose_apply _ _ _ _ (ix3 b t d) fun k => ?_
    fin_cases k <;> rfl
  threshold := by
    simp only [entryContents, afterL_cons, afterL_nil]
    after_reads_simp
    rfl
  counter := ctr_entry m c
  membrane b d := by
    simp only [entryContents, afterL_cons, afterL_nil]
    after_reads_simp
    rfl
  membranes t b d ht := absurd ht (Nat.not_lt_zero _)
  spikes t b d ht := absurd ht (Nat.not_lt_zero _)

/-- The first result is every membrane after its step. -/
theorem out_membranes (c : Dev nD) :
    out_main_v5 (STEP^[2048] (entryContents preI m c)) =
      memOut (m ((c.tc : Thread nD τ).loc main_arg0)) (m ((c.tc : Thread nD τ).loc main_arg1)) (m ((c.tc : Thread nD τ).loc main_arg2))
        (m ((c.tc : Thread nD τ).loc main_arg3)) := by
  funext i
  unfold out_main_v5
  refine (transpose_apply _ _ _ i (ix3 (i 1) (i 0) (i 2)) fun k => ?_).trans
    (((entry m c).iterate 2048 le_rfl).membranes (i 1) (i 0) (i 2) (i 1).isLt)
  fin_cases k <;> rfl

/-- The second result is every spike. -/
theorem out_spikes (c : Dev nD) :
    out_main_v6 (STEP^[2048] (entryContents preI m c)) =
      spkOut (m ((c.tc : Thread nD τ).loc main_arg0)) (m ((c.tc : Thread nD τ).loc main_arg1)) (m ((c.tc : Thread nD τ).loc main_arg2))
        (m ((c.tc : Thread nD τ).loc main_arg3)) := by
  funext i
  unfold out_main_v6
  refine (transpose_apply _ _ _ i (ix3 (i 1) (i 0) (i 2)) fun k => ?_).trans
    (((entry m c).iterate 2048 le_rfl).spikes (i 1) (i 0) (i 2) (i 1).isLt)
  fin_cases k <;> rfl

/-- The reference leaves the membranes and the spikes of the recurrence in its results, and its arguments as they were. -/
theorem ref_run : θ_run (defs (F := Ideal)) (onTc (τ := τ) (main (F := Ideal))) ⟨m, fun _ => 0, ρ⟩ fun r => ∀ c : Dev nD,
      r.2.mem ((c.tc : Thread nD τ).loc main_v5) = memOut (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v6) = spkOut (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (out_membranes m c), (h c).2.1.trans (out_spikes m c), (h c).2.2⟩)
    (Cert.ReferenceIdeal.Value.run (F := Ideal) m ρ)

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel Cert.Proof.Lif

/-- The reference runs, leaves its arguments as they were and has no semaphore that could be left raised. -/
theorem reference_frame : Cert.quiescent_ReferenceIdeal (hReferenceIdeal := Cert.ReferenceIdeal.Gen.facts) :=
  fun m g _ => (θ_run Cert.ReferenceIdeal.defs _ _).mono
    (fun r h => ⟨fun c => (h c).2.2, sem_eq_zero_of_no_sems (by decide) r.2⟩) (Cert.ReferenceIdeal.Value.run (F := Ideal) m g)

/-- From memories with equal arguments, the kernel and the reference end with equal membranes and equal spikes. -/
theorem values : Cert.algebraic_KernelIdeal_ReferenceIdeal (hKernelIdeal := Cert.KernelIdeal.Gen.facts)
    (hReferenceIdeal := Cert.ReferenceIdeal.Gen.facts) := by
  intro m g m' g' _ hagree
  refine ⟨fun c => memOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => spkOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    kernel_run m g, (θ_run Cert.ReferenceIdeal.defs _ _).mono (fun r h c => ?_) (Cert.Proof.Ref.ref_run m' g')⟩
  obtain ⟨e0, e1, e2, e3⟩ := hagree c
  refine ⟨(h c).1.trans ?_, (h c).2.1.trans ?_, (h c).2.2⟩ <;> rw [e0, e1, e2, e3]

/-- Everything claimed: the three programs run and keep their arguments, the kernel is read without a change, and its two
    results are the reference's. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, values⟩

end Cert.Proof

end
